-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S16 : Shape := ⟨1, ![16]⟩
abbrev S1x16 : Shape := ⟨2, ![1, 16]⟩
abbrev S100000 : Shape := ⟨1, ![100000]⟩
abbrev S100000x1 : Shape := ⟨2, ![100000, 1]⟩
abbrev S_ : Shape := ⟨0, ![]⟩
abbrev S100000x16 : Shape := ⟨2, ![100000, 16]⟩
abbrev S32x128 : Shape := ⟨2, ![32, 128]⟩
abbrev S125x128 : Shape := ⟨2, ![125, 128]⟩
abbrev S125x16 : Shape := ⟨2, ![125, 16]⟩
abbrev S128 : Shape := ⟨1, ![128]⟩
abbrev S1x128 : Shape := ⟨2, ![1, 128]⟩
abbrev S32 : Shape := ⟨1, ![32]⟩
abbrev S32x1 : Shape := ⟨2, ![32, 1]⟩
abbrev S128x1 : Shape := ⟨2, ![128, 1]⟩
abbrev S1x100000 : Shape := ⟨2, ![1, 100000]⟩

abbrev nBuf : Table → Nat
  | .hbm => 156
  | .local .scVector .vmem => 7
  | _ => 0

abbrev hbmTy0_0 (i : Nat) : BufTy := match i % 128 with
  | 0 => ⟨S128x100000, .f32⟩
  | 1 => ⟨S100000x128, .f32⟩
  | 2 => ⟨S16, .f32⟩
  | 3 => ⟨S1x16, .f32⟩
  | 4 => ⟨S100000, .f32⟩
  | 5 => ⟨S100000x1, .f32⟩
  | 6 => ⟨S_, .f32⟩
  | 7 => ⟨S1x16, .f32⟩
  | 8 => ⟨S1x16, .f32⟩
  | 9 => ⟨S_, .f32⟩
  | 10 => ⟨S1x16, .f32⟩
  | 11 => ⟨S1x16, .f32⟩
  | 12 => ⟨S100000x16, .f32⟩
  | 13 => ⟨S100000x16, .f32⟩
  | 14 => ⟨S100000x16, .f32⟩
  | 15 => ⟨S100000x16, .f32⟩
  | 16 => ⟨S100000x16, .f32⟩
  | 17 => ⟨S_, .f32⟩
  | 18 => ⟨S100000x16, .f32⟩
  | 19 => ⟨S100000x16, .f32⟩
  | 20 => ⟨S_, .f32⟩
  | 21 => ⟨S1x16, .f32⟩
  | 22 => ⟨S1x16, .f32⟩
  | 23 => ⟨S1x16, .f32⟩
  | 24 => ⟨S100000x16, .f32⟩
  | 25 => ⟨S100000x16, .f32⟩
  | 26 => ⟨S100000x16, .f32⟩
  | 27 => ⟨S_, .f32⟩
  | 28 => ⟨S100000x16, .f32⟩
  | 29 => ⟨S100000x16, .f32⟩
  | 30 => ⟨S32x128, .f32⟩
  | 31 => ⟨S32x128, .i32⟩
  | 32 => ⟨S32x128, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S1x128, .f32⟩
  | 39 => ⟨S32x128, .f32⟩
  | 40 => ⟨S_, .f32⟩
  | 41 => ⟨S1x128, .f32⟩
  | 42 => ⟨S1x128, .f32⟩
  | 43 => ⟨S_, .f32⟩
  | 44 => ⟨S1x128, .f32⟩
  | 45 => ⟨S1x128, .f32⟩
  | 46 => ⟨S32x128, .f32⟩
  | 47 => ⟨S32x128, .f32⟩
  | 48 => ⟨S32x128, .f32⟩
  | 49 => ⟨S32x128, .f32⟩
  | 50 => ⟨S_, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S_, .f32⟩
  | 57 => ⟨S32x128, .f32⟩
  | 58 => ⟨S32x128, .f32⟩
  | 59 => ⟨S_, .f32⟩
  | 60 => ⟨S1x128, .f32⟩
  | 61 => ⟨S1x128, .i1⟩
  | 62 => ⟨S32x128, .f32⟩
  | 63 => ⟨S32x128, .i1⟩
  | 64 => ⟨S32x128, .f32⟩
  | 65 => ⟨S_, .f32⟩
  | 66 => ⟨S128, .f32⟩
  | 67 => ⟨S1x128, .f32⟩
  | 68 => ⟨S32x128, .f32⟩
  | 69 => ⟨S32x128, .i1⟩
  | 70 => ⟨S_, .i32⟩
  | 71 => ⟨S32x128, .i32⟩
  | 72 => ⟨S32x128, .i32⟩
  | 73 => ⟨S_, .i32⟩
  | 74 => ⟨S128, .i32⟩
  | 75 => ⟨S32, .f32⟩
  | 76 => ⟨S_, .f32⟩
  | 77 => ⟨S32, .f32⟩
  | 78 => ⟨S32, .f32⟩
  | 79 => ⟨S32x1, .f32⟩
  | 80 => ⟨S_, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S32x128, .f32⟩
  | 87 => ⟨S32x128, .f32⟩
  | 88 => ⟨S32x128, .f32⟩
  | 89 => ⟨S32x128, .f32⟩
  | 90 => ⟨S32x128, .f32⟩
  | 91 => ⟨S_, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S_, .f32⟩
  | 98 => ⟨S32x128, .f32⟩
  | 99 => ⟨S32x128, .f32⟩
  | 100 => ⟨S32x128, .f32⟩
  | 101 => ⟨S1x128, .f32⟩
  | 102 => ⟨S32x128, .f32⟩
  | 103 => ⟨S32x128, .i1⟩
  | 104 => ⟨S32x128, .i1⟩
  | 105 => ⟨S32x128, .i1⟩
  | 106 => ⟨S_, .i1⟩
  | 107 => ⟨S_, .i1⟩
  | 108 => ⟨S_, .f32⟩
  | 109 => ⟨S_, .f32⟩
  | 110 => ⟨S_, .f32⟩
  | 111 => ⟨S_, .f32⟩
  | 112 => ⟨S_, .i32⟩
  | 113 => ⟨S128, .i32⟩
  | 114 => ⟨S128, .f32⟩
  | 115 => ⟨S128x1, .f32⟩
  | 116 => ⟨S128x1, .f32⟩
  | 117 => ⟨S128x1, .f32⟩
  | 118 => ⟨S100000, .f32⟩
  | 119 => ⟨S1x100000, .f32⟩
  | 120 => ⟨S1x100000, .f32⟩
  | 121 => ⟨S1x100000, .f32⟩
  | 122 => ⟨S_, .f32⟩
  | 123 => ⟨S128x1, .f32⟩
  | 124 => ⟨S128x1, .f32⟩
  | 125 => ⟨S_, .f32⟩
  | 126 => ⟨S128x1, .f32⟩
  | 127 => ⟨S128x1, .f32⟩
  | _ => ⟨S128x100000, .f32⟩

abbrev hbmTy0_1 (i : Nat) : BufTy := match i % 128 with
  | 0 => ⟨S128x100000, .f32⟩
  | 1 => ⟨S128x100000, .f32⟩
  | 2 => ⟨S128x100000, .f32⟩
  | 3 => ⟨S128x100000, .f32⟩
  | 4 => ⟨S128x100000, .f32⟩
  | 5 => ⟨S_, .f32⟩
  | 6 => ⟨S128x100000, .f32⟩
  | 7 => ⟨S128x100000, .f32⟩
  | 8 => ⟨S_, .f32⟩
  | 9 => ⟨S128x1, .f32⟩
  | 10 => ⟨S128x1, .f32⟩
  | 11 => ⟨S128x1, .f32⟩
  | 12 => ⟨S128x100000, .f32⟩
  | 13 => ⟨S128x100000, .f32⟩
  | 14 => ⟨S128x100000, .f32⟩
  | 15 => ⟨S_, .f32⟩
  | 16 => ⟨S128x100000, .f32⟩
  | 17 => ⟨S128x100000, .f32⟩
  | 18 => ⟨S100000x128, .f32⟩
  | 19 => ⟨S100000x128, .f32⟩
  | 20 => ⟨S128x100000, .f32⟩
  | 21 => ⟨S128x100000, .f32⟩
  | 22 => ⟨S128x100000, .i32⟩
  | 23 => ⟨S_, .f32⟩
  | 24 => ⟨S_, .i32⟩
  | 25 => ⟨S128, .f32⟩
  | 26 => ⟨S128, .i32⟩
  | 27 => ⟨S128x1, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (nBuf tb) → BufTy
  | .hbm, ⟨i, _⟩ => hbmTy i
  | .local .scVector .vmem, ⟨0, _⟩ => ⟨S125x128, .f32⟩
  | .local .scVector .vmem, ⟨1, _⟩ => ⟨S125x128, .f32⟩
  | .local .scVector .vmem, ⟨2, _⟩ => ⟨S125x16, .f32⟩
  | .local .scVector .vmem, ⟨3, _⟩ => ⟨S125x16, .f32⟩
  | .local .scVector .vmem, ⟨4, _⟩ => ⟨S128, .f32⟩
  | .local .scVector .vmem, ⟨5, _⟩ => ⟨S128, .i32⟩
  | .local .scVector .vmem, ⟨6, _⟩ => ⟨S128, .f32⟩
  | _, _ => ⟨S128x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v24_2 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c : Ref sig .tc := ⟨.hbm, 70, rfl⟩
abbrev main_call1_v0 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_17 : Ref sig .tc := ⟨.hbm, 106, rfl⟩
abbrev main_v82 : Ref sig .tc := ⟨.hbm, 107, rfl⟩
abbrev main_cst_18 : Ref sig .tc := ⟨.hbm, 108, rfl⟩
abbrev main_cst_19 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_case0b1_v88 : Ref sig .tc := ⟨.hbm, 114, rfl⟩
abbrev main_case0b1_v89 : Ref sig .tc := ⟨.hbm, 115, rfl⟩
abbrev main_case0b1_v90 : Ref sig .tc := ⟨.hbm, 116, rfl⟩
abbrev main_case0b1_v91 : Ref sig .tc := ⟨.hbm, 117, rfl⟩
abbrev main_case0b1_v92 : Ref sig .tc := ⟨.hbm, 118, rfl⟩
abbrev main_case0b1_v93 : Ref sig .tc := ⟨.hbm, 119, rfl⟩
abbrev main_case0b1_v94 : Ref sig .tc := ⟨.hbm, 120, rfl⟩
abbrev main_case0b1_v95 : Ref sig .tc := ⟨.hbm, 121, rfl⟩
abbrev main_case0b1_cst_20 : Ref sig .tc := ⟨.hbm, 122, rfl⟩
abbrev main_case0b1_v96 : Ref sig .tc := ⟨.hbm, 123, rfl⟩
abbrev main_case0b1_v97 : Ref sig .tc := ⟨.hbm, 124, rfl⟩
abbrev main_case0b1_cst_21 : Ref sig .tc := ⟨.hbm, 125, rfl⟩
abbrev main_case0b1_v98 : Ref sig .tc := ⟨.hbm, 126, rfl⟩
abbrev main_case0b1_v99 : Ref sig .tc := ⟨.hbm, 127, rfl⟩
abbrev main_case0b1_v100 : Ref sig .tc := ⟨.hbm, 128, rfl⟩
abbrev main_case0b1_v101 : Ref sig .tc := ⟨.hbm, 129, rfl⟩
abbrev main_case0b1_v102 : Ref sig .tc := ⟨.hbm, 130, rfl⟩
abbrev main_case0b1_v103 : Ref sig .tc := ⟨.hbm, 131, rfl⟩
abbrev main_case0b1_v104 : Ref sig .tc := ⟨.hbm, 132, rfl⟩
abbrev main_case0b1_cst_22 : Ref sig .tc := ⟨.hbm, 133, rfl⟩
abbrev main_case0b1_v105 : Ref sig .tc := ⟨.hbm, 134, rfl⟩
abbrev main_case0b1_v106 : Ref sig .tc := ⟨.hbm, 135, rfl⟩
abbrev main_case0b1_cst_23 : Ref sig .tc := ⟨.hbm, 136, rfl⟩
abbrev main_case0b1_v107 : Ref sig .tc := ⟨.hbm, 137, rfl⟩
abbrev main_case0b1_v108 : Ref sig .tc := ⟨.hbm, 138, rfl⟩
abbrev main_case0b1_v109 : Ref sig .tc := ⟨.hbm, 139, rfl⟩
abbrev main_case0b1_v110 : Ref sig .tc := ⟨.hbm, 140, rfl⟩
abbrev main_case0b1_v111 : Ref sig .tc := ⟨.hbm, 141, rfl⟩
abbrev main_case0b1_v112 : Ref sig .tc := ⟨.hbm, 142, rfl⟩
abbrev main_case0b1_cst_24 : Ref sig .tc := ⟨.hbm, 143, rfl⟩
abbrev main_case0b1_v113 : Ref sig .tc := ⟨.hbm, 144, rfl⟩
abbrev main_case0b1_v114 : Ref sig .tc := ⟨.hbm, 145, rfl⟩
abbrev main_case0b1_v115 : Ref sig .tc := ⟨.hbm, 146, rfl⟩
abbrev main_case0b1_v116 : Ref sig .tc := ⟨.hbm, 147, rfl⟩
abbrev main_case0b1_v117 : Ref sig .tc := ⟨.hbm, 148, rfl⟩
abbrev main_case0b1_v118 : Ref sig .tc := ⟨.hbm, 149, rfl⟩
abbrev main_case0b1_call3_v0 : Ref sig .tc := ⟨.hbm, 150, rfl⟩
abbrev main_case0b1_call3_cst : Ref sig .tc := ⟨.hbm, 151, rfl⟩
abbrev main_case0b1_call3_c : Ref sig .tc := ⟨.hbm, 152, rfl⟩
abbrev main_case0b1_call3_v1_0 : Ref sig .tc := ⟨.hbm, 153, rfl⟩
abbrev main_case0b1_v119 : Ref sig .tc := ⟨.hbm, 154, rfl⟩
abbrev main_v87 : Ref sig .tc := ⟨.hbm, 155, rfl⟩
abbrev main_v0_scv : Ref sig .scVector := ⟨.hbm, 1, rfl⟩
abbrev main_v23_scv : Ref sig .scVector := ⟨.hbm, 29, rfl⟩
abbrev main_v24_0_scv : Ref sig .scVector := ⟨.hbm, 30, rfl⟩
abbrev main_v24_1_scv : Ref sig .scVector := ⟨.hbm, 31, rfl⟩
abbrev main_v24_2_scv : Ref sig .scVector := ⟨.hbm, 32, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v4 : BitVec 32 := Scalar.addi v2 c0_i32
  let c0_i32_0 : BitVec 32 := 0#32
  ![v4.toNat, 0]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v7 : BitVec 32 := Scalar.addi v2 c0_i32_2
  let c0_i32_3 : BitVec 32 := 0#32
  ![v7.toNat, 0]
@[reducible] def k0_t1_loop : Scf.Loop 32 :=
  let c0_i32_25 : BitVec 32 := 0#32
  let c125_i32_26 : BitVec 32 := 125#32
  let v31 : BitVec 32 := Scalar.addi c0_i32_25 c125_i32_26
  let c1_i32 : BitVec 32 := 1#32
  ⟨c0_i32_25, v31, c1_i32⟩
def k0_off3 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v413 : Index := Scalar.indexCast arg18
  let c0_423 : Index := 0#32
  ![v413.toNat, 0]
def k0_off4 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v415 : Index := Scalar.indexCast arg18
  let c0_424 : Index := 0#32
  ![v415.toNat, 0]
def k0_off5 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v421 : Index := Scalar.indexCast arg18
  let c16_425 : Index := 16#32
  ![v421.toNat, 16]
def k0_off6 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v427 : Index := Scalar.indexCast arg18
  let c32_426 : Index := 32#32
  ![v427.toNat, 32]
def k0_off7 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v433 : Index := Scalar.indexCast arg18
  let c48_427 : Index := 48#32
  ![v433.toNat, 48]
def k0_off8 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v439 : Index := Scalar.indexCast arg18
  let c64_428 : Index := 64#32
  ![v439.toNat, 64]
def k0_off9 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v445 : Index := Scalar.indexCast arg18
  let c80_429 : Index := 80#32
  ![v445.toNat, 80]
def k0_off10 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v451 : Index := Scalar.indexCast arg18
  let c96_430 : Index := 96#32
  ![v451.toNat, 96]
def k0_off11 (k0_t1 : Fin k0_t1_loop.trips) : Fin 2 → Nat :=
  let c0_i32_25 : BitVec 32 := 0#32
  let c1_i32 : BitVec 32 := 1#32
  let arg18 : BitVec 32 := Scf.iv c0_i32_25 c1_i32 k0_t1
  let v457 : Index := Scalar.indexCast arg18
  let c112_431 : Index := 112#32
  ![v457.toNat, 112]
@[reducible] def k0_t2_loop : Scf.Loop 32 :=
  let c0_i32_40 : BitVec 32 := 0#32
  let c125_i32_41 : BitVec 32 := 125#32
  let v46 : BitVec 32 := Scalar.addi c0_i32_40 c125_i32_41
  let c1_i32_42 : BitVec 32 := 1#32
  ⟨c0_i32_40, v46, c1_i32_42⟩
def k0_off12 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v413 : Index := Scalar.indexCast arg18
  let c0_423 : Index := 0#32
  ![v413.toNat, 0]
def k0_off13 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v415 : Index := Scalar.indexCast arg18
  let c0_424 : Index := 0#32
  ![v415.toNat, 0]
def k0_off14 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v421 : Index := Scalar.indexCast arg18
  let c16_425 : Index := 16#32
  ![v421.toNat, 16]
def k0_off15 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v427 : Index := Scalar.indexCast arg18
  let c32_426 : Index := 32#32
  ![v427.toNat, 32]
def k0_off16 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v433 : Index := Scalar.indexCast arg18
  let c48_427 : Index := 48#32
  ![v433.toNat, 48]
def k0_off17 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v439 : Index := Scalar.indexCast arg18
  let c64_428 : Index := 64#32
  ![v439.toNat, 64]
def k0_off18 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v445 : Index := Scalar.indexCast arg18
  let c80_429 : Index := 80#32
  ![v445.toNat, 80]
def k0_off19 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v451 : Index := Scalar.indexCast arg18
  let c96_430 : Index := 96#32
  ![v451.toNat, 96]
def k0_off20 (k0_t2 : Fin k0_t2_loop.trips) : Fin 2 → Nat :=
  let c0_i32_40 : BitVec 32 := 0#32
  let c1_i32_42 : BitVec 32 := 1#32
  let arg18 : BitVec 32 := Scf.iv c0_i32_40 c1_i32_42 k0_t2
  let v457 : Index := Scalar.indexCast arg18
  let c112_431 : Index := 112#32
  ![v457.toNat, 112]
@[reducible] def k0_t3_loop : Scf.Loop 32 :=
  let c0_i32_56 : BitVec 32 := 0#32
  let c125_i32_57 : BitVec 32 := 125#32
  let v61 : BitVec 32 := Scalar.addi c0_i32_56 c125_i32_57
  let c1_i32_58 : BitVec 32 := 1#32
  ⟨c0_i32_56, v61, c1_i32_58⟩
def k0_off21 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v413 : Index := Scalar.indexCast arg18
  let c0_423 : Index := 0#32
  ![v413.toNat, 0]
def k0_off22 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v415 : Index := Scalar.indexCast arg18
  let c0_424 : Index := 0#32
  ![v415.toNat, 0]
def k0_off23 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v421 : Index := Scalar.indexCast arg18
  let c16_425 : Index := 16#32
  ![v421.toNat, 16]
def k0_off24 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v427 : Index := Scalar.indexCast arg18
  let c32_426 : Index := 32#32
  ![v427.toNat, 32]
def k0_off25 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v433 : Index := Scalar.indexCast arg18
  let c48_427 : Index := 48#32
  ![v433.toNat, 48]
def k0_off26 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v439 : Index := Scalar.indexCast arg18
  let c64_428 : Index := 64#32
  ![v439.toNat, 64]
def k0_off27 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v445 : Index := Scalar.indexCast arg18
  let c80_429 : Index := 80#32
  ![v445.toNat, 80]
def k0_off28 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v451 : Index := Scalar.indexCast arg18
  let c96_430 : Index := 96#32
  ![v451.toNat, 96]
def k0_off29 (k0_t3 : Fin k0_t3_loop.trips) : Fin 2 → Nat :=
  let c0_i32_56 : BitVec 32 := 0#32
  let c1_i32_58 : BitVec 32 := 1#32
  let arg18 : BitVec 32 := Scf.iv c0_i32_56 c1_i32_58 k0_t3
  let v457 : Index := Scalar.indexCast arg18
  let c112_431 : Index := 112#32
  ![v457.toNat, 112]
@[reducible] def k0_t4_loop : Scf.Loop 32 :=
  let c0_i32_72 : BitVec 32 := 0#32
  let c125_i32_73 : BitVec 32 := 125#32
  let v76 : BitVec 32 := Scalar.addi c0_i32_72 c125_i32_73
  let c1_i32_74 : BitVec 32 := 1#32
  ⟨c0_i32_72, v76, c1_i32_74⟩
def k0_off30 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v413 : Index := Scalar.indexCast arg18
  let c0_423 : Index := 0#32
  ![v413.toNat, 0]
def k0_off31 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v415 : Index := Scalar.indexCast arg18
  let c0_424 : Index := 0#32
  ![v415.toNat, 0]
def k0_off32 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v421 : Index := Scalar.indexCast arg18
  let c16_425 : Index := 16#32
  ![v421.toNat, 16]
def k0_off33 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v427 : Index := Scalar.indexCast arg18
  let c32_426 : Index := 32#32
  ![v427.toNat, 32]
def k0_off34 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v433 : Index := Scalar.indexCast arg18
  let c48_427 : Index := 48#32
  ![v433.toNat, 48]
def k0_off35 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v439 : Index := Scalar.indexCast arg18
  let c64_428 : Index := 64#32
  ![v439.toNat, 64]
def k0_off36 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v445 : Index := Scalar.indexCast arg18
  let c80_429 : Index := 80#32
  ![v445.toNat, 80]
def k0_off37 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v451 : Index := Scalar.indexCast arg18
  let c96_430 : Index := 96#32
  ![v451.toNat, 96]
def k0_off38 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let v457 : Index := Scalar.indexCast arg18
  let c112_431 : Index := 112#32
  ![v457.toNat, 112]
@[reducible] def k0_t5_loop : Scf.Loop 32 :=
  let c0_i32_88 : BitVec 32 := 0#32
  let c125_i32_89 : BitVec 32 := 125#32
  let v91 : BitVec 32 := Scalar.addi c0_i32_88 c125_i32_89
  let c1_i32_90 : BitVec 32 := 1#32
  ⟨c0_i32_88, v91, c1_i32_90⟩
def k0_off39 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v413 : Index := Scalar.indexCast arg18
  let c0_423 : Index := 0#32
  ![v413.toNat, 0]
def k0_off40 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v415 : Index := Scalar.indexCast arg18
  let c0_424 : Index := 0#32
  ![v415.toNat, 0]
def k0_off41 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v421 : Index := Scalar.indexCast arg18
  let c16_425 : Index := 16#32
  ![v421.toNat, 16]
def k0_off42 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v427 : Index := Scalar.indexCast arg18
  let c32_426 : Index := 32#32
  ![v427.toNat, 32]
def k0_off43 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v433 : Index := Scalar.indexCast arg18
  let c48_427 : Index := 48#32
  ![v433.toNat, 48]
def k0_off44 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v439 : Index := Scalar.indexCast arg18
  let c64_428 : Index := 64#32
  ![v439.toNat, 64]
def k0_off45 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v445 : Index := Scalar.indexCast arg18
  let c80_429 : Index := 80#32
  ![v445.toNat, 80]
def k0_off46 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v451 : Index := Scalar.indexCast arg18
  let c96_430 : Index := 96#32
  ![v451.toNat, 96]
def k0_off47 (k0_t5 : Fin k0_t5_loop.trips) : Fin 2 → Nat :=
  let c0_i32_88 : BitVec 32 := 0#32
  let c1_i32_90 : BitVec 32 := 1#32
  let arg18 : BitVec 32 := Scf.iv c0_i32_88 c1_i32_90 k0_t5
  let v457 : Index := Scalar.indexCast arg18
  let c112_431 : Index := 112#32
  ![v457.toNat, 112]
@[reducible] def k0_t6_loop : Scf.Loop 32 :=
  let c0_i32_104 : BitVec 32 := 0#32
  let c125_i32_105 : BitVec 32 := 125#32
  let v106 : BitVec 32 := Scalar.addi c0_i32_104 c125_i32_105
  let c1_i32_106 : BitVec 32 := 1#32
  ⟨c0_i32_104, v106, c1_i32_106⟩
def k0_off48 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v413 : Index := Scalar.indexCast arg18
  let c0_423 : Index := 0#32
  ![v413.toNat, 0]
def k0_off49 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v415 : Index := Scalar.indexCast arg18
  let c0_424 : Index := 0#32
  ![v415.toNat, 0]
def k0_off50 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v421 : Index := Scalar.indexCast arg18
  let c16_425 : Index := 16#32
  ![v421.toNat, 16]
def k0_off51 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v427 : Index := Scalar.indexCast arg18
  let c32_426 : Index := 32#32
  ![v427.toNat, 32]
def k0_off52 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v433 : Index := Scalar.indexCast arg18
  let c48_427 : Index := 48#32
  ![v433.toNat, 48]
def k0_off53 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v439 : Index := Scalar.indexCast arg18
  let c64_428 : Index := 64#32
  ![v439.toNat, 64]
def k0_off54 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v445 : Index := Scalar.indexCast arg18
  let c80_429 : Index := 80#32
  ![v445.toNat, 80]
def k0_off55 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v451 : Index := Scalar.indexCast arg18
  let c96_430 : Index := 96#32
  ![v451.toNat, 96]
def k0_off56 (k0_t6 : Fin k0_t6_loop.trips) : Fin 2 → Nat :=
  let c0_i32_104 : BitVec 32 := 0#32
  let c1_i32_106 : BitVec 32 := 1#32
  let arg18 : BitVec 32 := Scf.iv c0_i32_104 c1_i32_106 k0_t6
  let v457 : Index := Scalar.indexCast arg18
  let c112_431 : Index := 112#32
  ![v457.toNat, 112]
@[reducible] def k0_t7_loop : Scf.Loop 32 :=
  let c0_i32_120 : BitVec 32 := 0#32
  let c125_i32_121 : BitVec 32 := 125#32
  let v121 : BitVec 32 := Scalar.addi c0_i32_120 c125_i32_121
  let c1_i32_122 : BitVec 32 := 1#32
  ⟨c0_i32_120, v121, c1_i32_122⟩
def k0_off57 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v413 : Index := Scalar.indexCast arg18
  let c0_423 : Index := 0#32
  ![v413.toNat, 0]
def k0_off58 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v415 : Index := Scalar.indexCast arg18
  let c0_424 : Index := 0#32
  ![v415.toNat, 0]
def k0_off59 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v421 : Index := Scalar.indexCast arg18
  let c16_425 : Index := 16#32
  ![v421.toNat, 16]
def k0_off60 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v427 : Index := Scalar.indexCast arg18
  let c32_426 : Index := 32#32
  ![v427.toNat, 32]
def k0_off61 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v433 : Index := Scalar.indexCast arg18
  let c48_427 : Index := 48#32
  ![v433.toNat, 48]
def k0_off62 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v439 : Index := Scalar.indexCast arg18
  let c64_428 : Index := 64#32
  ![v439.toNat, 64]
def k0_off63 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v445 : Index := Scalar.indexCast arg18
  let c80_429 : Index := 80#32
  ![v445.toNat, 80]
def k0_off64 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v451 : Index := Scalar.indexCast arg18
  let c96_430 : Index := 96#32
  ![v451.toNat, 96]
def k0_off65 (k0_t7 : Fin k0_t7_loop.trips) : Fin 2 → Nat :=
  let c0_i32_120 : BitVec 32 := 0#32
  let c1_i32_122 : BitVec 32 := 1#32
  let arg18 : BitVec 32 := Scf.iv c0_i32_120 c1_i32_122 k0_t7
  let v457 : Index := Scalar.indexCast arg18
  let c112_431 : Index := 112#32
  ![v457.toNat, 112]
@[reducible] def k0_t8_loop : Scf.Loop 32 :=
  let c0_i32_136 : BitVec 32 := 0#32
  let c125_i32_137 : BitVec 32 := 125#32
  let v136 : BitVec 32 := Scalar.addi c0_i32_136 c125_i32_137
  let c1_i32_138 : BitVec 32 := 1#32
  ⟨c0_i32_136, v136, c1_i32_138⟩
def k0_off66 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v413 : Index := Scalar.indexCast arg18
  let c0_423 : Index := 0#32
  ![v413.toNat, 0]
def k0_off67 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v415 : Index := Scalar.indexCast arg18
  let c0_424 : Index := 0#32
  ![v415.toNat, 0]
def k0_off68 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v421 : Index := Scalar.indexCast arg18
  let c16_425 : Index := 16#32
  ![v421.toNat, 16]
def k0_off69 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v427 : Index := Scalar.indexCast arg18
  let c32_426 : Index := 32#32
  ![v427.toNat, 32]
def k0_off70 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v433 : Index := Scalar.indexCast arg18
  let c48_427 : Index := 48#32
  ![v433.toNat, 48]
def k0_off71 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v439 : Index := Scalar.indexCast arg18
  let c64_428 : Index := 64#32
  ![v439.toNat, 64]
def k0_off72 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v445 : Index := Scalar.indexCast arg18
  let c80_429 : Index := 80#32
  ![v445.toNat, 80]
def k0_off73 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v451 : Index := Scalar.indexCast arg18
  let c96_430 : Index := 96#32
  ![v451.toNat, 96]
def k0_off74 (k0_t8 : Fin k0_t8_loop.trips) : Fin 2 → Nat :=
  let c0_i32_136 : BitVec 32 := 0#32
  let c1_i32_138 : BitVec 32 := 1#32
  let arg18 : BitVec 32 := Scf.iv c0_i32_136 c1_i32_138 k0_t8
  let v457 : Index := Scalar.indexCast arg18
  let c112_431 : Index := 112#32
  ![v457.toNat, 112]
@[reducible] def k0_t9_loop : Scf.Loop 32 :=
  let c0_i32_152 : BitVec 32 := 0#32
  let c125_i32_153 : BitVec 32 := 125#32
  let v151 : BitVec 32 := Scalar.addi c0_i32_152 c125_i32_153
  let c1_i32_154 : BitVec 32 := 1#32
  ⟨c0_i32_152, v151, c1_i32_154⟩
def k0_off75 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v413 : Index := Scalar.indexCast arg18
  let c0_423 : Index := 0#32
  ![v413.toNat, 0]
def k0_off76 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v415 : Index := Scalar.indexCast arg18
  let c0_424 : Index := 0#32
  ![v415.toNat, 0]
def k0_off77 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v421 : Index := Scalar.indexCast arg18
  let c16_425 : Index := 16#32
  ![v421.toNat, 16]
def k0_off78 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v427 : Index := Scalar.indexCast arg18
  let c32_426 : Index := 32#32
  ![v427.toNat, 32]
def k0_off79 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v433 : Index := Scalar.indexCast arg18
  let c48_427 : Index := 48#32
  ![v433.toNat, 48]
def k0_off80 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v439 : Index := Scalar.indexCast arg18
  let c64_428 : Index := 64#32
  ![v439.toNat, 64]
def k0_off81 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v445 : Index := Scalar.indexCast arg18
  let c80_429 : Index := 80#32
  ![v445.toNat, 80]
def k0_off82 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v451 : Index := Scalar.indexCast arg18
  let c96_430 : Index := 96#32
  ![v451.toNat, 96]
def k0_off83 (k0_t9 : Fin k0_t9_loop.trips) : Fin 2 → Nat :=
  let c0_i32_152 : BitVec 32 := 0#32
  let c1_i32_154 : BitVec 32 := 1#32
  let arg18 : BitVec 32 := Scf.iv c0_i32_152 c1_i32_154 k0_t9
  let v457 : Index := Scalar.indexCast arg18
  let c112_431 : Index := 112#32
  ![v457.toNat, 112]
@[reducible] def k0_t10_loop : Scf.Loop 32 :=
  let c0_i32_168 : BitVec 32 := 0#32
  let c125_i32_169 : BitVec 32 := 125#32
  let v166 : BitVec 32 := Scalar.addi c0_i32_168 c125_i32_169
  let c1_i32_170 : BitVec 32 := 1#32
  ⟨c0_i32_168, v166, c1_i32_170⟩
def k0_off84 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v413 : Index := Scalar.indexCast arg18
  let c0_423 : Index := 0#32
  ![v413.toNat, 0]
def k0_off85 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v415 : Index := Scalar.indexCast arg18
  let c0_424 : Index := 0#32
  ![v415.toNat, 0]
def k0_off86 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v421 : Index := Scalar.indexCast arg18
  let c16_425 : Index := 16#32
  ![v421.toNat, 16]
def k0_off87 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v427 : Index := Scalar.indexCast arg18
  let c32_426 : Index := 32#32
  ![v427.toNat, 32]
def k0_off88 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v433 : Index := Scalar.indexCast arg18
  let c48_427 : Index := 48#32
  ![v433.toNat, 48]
def k0_off89 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v439 : Index := Scalar.indexCast arg18
  let c64_428 : Index := 64#32
  ![v439.toNat, 64]
def k0_off90 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v445 : Index := Scalar.indexCast arg18
  let c80_429 : Index := 80#32
  ![v445.toNat, 80]
def k0_off91 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v451 : Index := Scalar.indexCast arg18
  let c96_430 : Index := 96#32
  ![v451.toNat, 96]
def k0_off92 (k0_t10 : Fin k0_t10_loop.trips) : Fin 2 → Nat :=
  let c0_i32_168 : BitVec 32 := 0#32
  let c1_i32_170 : BitVec 32 := 1#32
  let arg18 : BitVec 32 := Scf.iv c0_i32_168 c1_i32_170 k0_t10
  let v457 : Index := Scalar.indexCast arg18
  let c112_431 : Index := 112#32
  ![v457.toNat, 112]
@[reducible] def k0_t11_loop : Scf.Loop 32 :=
  let c0_i32_184 : BitVec 32 := 0#32
  let c125_i32_185 : BitVec 32 := 125#32
  let v181 : BitVec 32 := Scalar.addi c0_i32_184 c125_i32_185
  let c1_i32_186 : BitVec 32 := 1#32
  ⟨c0_i32_184, v181, c1_i32_186⟩
def k0_off93 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v413 : Index := Scalar.indexCast arg18
  let c0_423 : Index := 0#32
  ![v413.toNat, 0]
def k0_off94 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v415 : Index := Scalar.indexCast arg18
  let c0_424 : Index := 0#32
  ![v415.toNat, 0]
def k0_off95 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v421 : Index := Scalar.indexCast arg18
  let c16_425 : Index := 16#32
  ![v421.toNat, 16]
def k0_off96 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v427 : Index := Scalar.indexCast arg18
  let c32_426 : Index := 32#32
  ![v427.toNat, 32]
def k0_off97 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v433 : Index := Scalar.indexCast arg18
  let c48_427 : Index := 48#32
  ![v433.toNat, 48]
def k0_off98 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v439 : Index := Scalar.indexCast arg18
  let c64_428 : Index := 64#32
  ![v439.toNat, 64]
def k0_off99 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v445 : Index := Scalar.indexCast arg18
  let c80_429 : Index := 80#32
  ![v445.toNat, 80]
def k0_off100 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v451 : Index := Scalar.indexCast arg18
  let c96_430 : Index := 96#32
  ![v451.toNat, 96]
def k0_off101 (k0_t11 : Fin k0_t11_loop.trips) : Fin 2 → Nat :=
  let c0_i32_184 : BitVec 32 := 0#32
  let c1_i32_186 : BitVec 32 := 1#32
  let arg18 : BitVec 32 := Scf.iv c0_i32_184 c1_i32_186 k0_t11
  let v457 : Index := Scalar.indexCast arg18
  let c112_431 : Index := 112#32
  ![v457.toNat, 112]
@[reducible] def k0_t12_loop : Scf.Loop 32 :=
  let c0_i32_200 : BitVec 32 := 0#32
  let c125_i32_201 : BitVec 32 := 125#32
  let v196 : BitVec 32 := Scalar.addi c0_i32_200 c125_i32_201
  let c1_i32_202 : BitVec 32 := 1#32
  ⟨c0_i32_200, v196, c1_i32_202⟩
def k0_off102 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v413 : Index := Scalar.indexCast arg18
  let c0_423 : Index := 0#32
  ![v413.toNat, 0]
def k0_off103 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v415 : Index := Scalar.indexCast arg18
  let c0_424 : Index := 0#32
  ![v415.toNat, 0]
def k0_off104 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v421 : Index := Scalar.indexCast arg18
  let c16_425 : Index := 16#32
  ![v421.toNat, 16]
def k0_off105 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v427 : Index := Scalar.indexCast arg18
  let c32_426 : Index := 32#32
  ![v427.toNat, 32]
def k0_off106 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v433 : Index := Scalar.indexCast arg18
  let c48_427 : Index := 48#32
  ![v433.toNat, 48]
def k0_off107 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v439 : Index := Scalar.indexCast arg18
  let c64_428 : Index := 64#32
  ![v439.toNat, 64]
def k0_off108 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v445 : Index := Scalar.indexCast arg18
  let c80_429 : Index := 80#32
  ![v445.toNat, 80]
def k0_off109 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v451 : Index := Scalar.indexCast arg18
  let c96_430 : Index := 96#32
  ![v451.toNat, 96]
def k0_off110 (k0_t12 : Fin k0_t12_loop.trips) : Fin 2 → Nat :=
  let c0_i32_200 : BitVec 32 := 0#32
  let c1_i32_202 : BitVec 32 := 1#32
  let arg18 : BitVec 32 := Scf.iv c0_i32_200 c1_i32_202 k0_t12
  let v457 : Index := Scalar.indexCast arg18
  let c112_431 : Index := 112#32
  ![v457.toNat, 112]
@[reducible] def k0_t13_loop : Scf.Loop 32 :=
  let c0_i32_216 : BitVec 32 := 0#32
  let c125_i32_217 : BitVec 32 := 125#32
  let v211 : BitVec 32 := Scalar.addi c0_i32_216 c125_i32_217
  let c1_i32_218 : BitVec 32 := 1#32
  ⟨c0_i32_216, v211, c1_i32_218⟩
def k0_off111 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v413 : Index := Scalar.indexCast arg18
  let c0_423 : Index := 0#32
  ![v413.toNat, 0]
def k0_off112 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v415 : Index := Scalar.indexCast arg18
  let c0_424 : Index := 0#32
  ![v415.toNat, 0]
def k0_off113 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v421 : Index := Scalar.indexCast arg18
  let c16_425 : Index := 16#32
  ![v421.toNat, 16]
def k0_off114 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v427 : Index := Scalar.indexCast arg18
  let c32_426 : Index := 32#32
  ![v427.toNat, 32]
def k0_off115 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v433 : Index := Scalar.indexCast arg18
  let c48_427 : Index := 48#32
  ![v433.toNat, 48]
def k0_off116 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v439 : Index := Scalar.indexCast arg18
  let c64_428 : Index := 64#32
  ![v439.toNat, 64]
def k0_off117 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v445 : Index := Scalar.indexCast arg18
  let c80_429 : Index := 80#32
  ![v445.toNat, 80]
def k0_off118 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v451 : Index := Scalar.indexCast arg18
  let c96_430 : Index := 96#32
  ![v451.toNat, 96]
def k0_off119 (k0_t13 : Fin k0_t13_loop.trips) : Fin 2 → Nat :=
  let c0_i32_216 : BitVec 32 := 0#32
  let c1_i32_218 : BitVec 32 := 1#32
  let arg18 : BitVec 32 := Scf.iv c0_i32_216 c1_i32_218 k0_t13
  let v457 : Index := Scalar.indexCast arg18
  let c112_431 : Index := 112#32
  ![v457.toNat, 112]
@[reducible] def k0_t14_loop : Scf.Loop 32 :=
  let c0_i32_232 : BitVec 32 := 0#32
  let c125_i32_233 : BitVec 32 := 125#32
  let v226 : BitVec 32 := Scalar.addi c0_i32_232 c125_i32_233
  let c1_i32_234 : BitVec 32 := 1#32
  ⟨c0_i32_232, v226, c1_i32_234⟩
def k0_off120 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v413 : Index := Scalar.indexCast arg18
  let c0_423 : Index := 0#32
  ![v413.toNat, 0]
def k0_off121 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v415 : Index := Scalar.indexCast arg18
  let c0_424 : Index := 0#32
  ![v415.toNat, 0]
def k0_off122 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v421 : Index := Scalar.indexCast arg18
  let c16_425 : Index := 16#32
  ![v421.toNat, 16]
def k0_off123 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v427 : Index := Scalar.indexCast arg18
  let c32_426 : Index := 32#32
  ![v427.toNat, 32]
def k0_off124 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v433 : Index := Scalar.indexCast arg18
  let c48_427 : Index := 48#32
  ![v433.toNat, 48]
def k0_off125 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v439 : Index := Scalar.indexCast arg18
  let c64_428 : Index := 64#32
  ![v439.toNat, 64]
def k0_off126 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v445 : Index := Scalar.indexCast arg18
  let c80_429 : Index := 80#32
  ![v445.toNat, 80]
def k0_off127 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v451 : Index := Scalar.indexCast arg18
  let c96_430 : Index := 96#32
  ![v451.toNat, 96]
def k0_off128 (k0_t14 : Fin k0_t14_loop.trips) : Fin 2 → Nat :=
  let c0_i32_232 : BitVec 32 := 0#32
  let c1_i32_234 : BitVec 32 := 1#32
  let arg18 : BitVec 32 := Scf.iv c0_i32_232 c1_i32_234 k0_t14
  let v457 : Index := Scalar.indexCast arg18
  let c112_431 : Index := 112#32
  ![v457.toNat, 112]
@[reducible] def k0_t15_loop : Scf.Loop 32 :=
  let c0_i32_248 : BitVec 32 := 0#32
  let c125_i32_249 : BitVec 32 := 125#32
  let v241 : BitVec 32 := Scalar.addi c0_i32_248 c125_i32_249
  let c1_i32_250 : BitVec 32 := 1#32
  ⟨c0_i32_248, v241, c1_i32_250⟩
def k0_off129 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v413 : Index := Scalar.indexCast arg18
  let c0_423 : Index := 0#32
  ![v413.toNat, 0]
def k0_off130 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v415 : Index := Scalar.indexCast arg18
  let c0_424 : Index := 0#32
  ![v415.toNat, 0]
def k0_off131 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v421 : Index := Scalar.indexCast arg18
  let c16_425 : Index := 16#32
  ![v421.toNat, 16]
def k0_off132 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v427 : Index := Scalar.indexCast arg18
  let c32_426 : Index := 32#32
  ![v427.toNat, 32]
def k0_off133 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v433 : Index := Scalar.indexCast arg18
  let c48_427 : Index := 48#32
  ![v433.toNat, 48]
def k0_off134 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v439 : Index := Scalar.indexCast arg18
  let c64_428 : Index := 64#32
  ![v439.toNat, 64]
def k0_off135 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v445 : Index := Scalar.indexCast arg18
  let c80_429 : Index := 80#32
  ![v445.toNat, 80]
def k0_off136 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v451 : Index := Scalar.indexCast arg18
  let c96_430 : Index := 96#32
  ![v451.toNat, 96]
def k0_off137 (k0_t15 : Fin k0_t15_loop.trips) : Fin 2 → Nat :=
  let c0_i32_248 : BitVec 32 := 0#32
  let c1_i32_250 : BitVec 32 := 1#32
  let arg18 : BitVec 32 := Scf.iv c0_i32_248 c1_i32_250 k0_t15
  let v457 : Index := Scalar.indexCast arg18
  let c112_431 : Index := 112#32
  ![v457.toNat, 112]
@[reducible] def k0_t16_loop : Scf.Loop 32 :=
  let c0_i32_264 : BitVec 32 := 0#32
  let c125_i32_265 : BitVec 32 := 125#32
  let v256 : BitVec 32 := Scalar.addi c0_i32_264 c125_i32_265
  let c1_i32_266 : BitVec 32 := 1#32
  ⟨c0_i32_264, v256, c1_i32_266⟩
def k0_off138 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v413 : Index := Scalar.indexCast arg18
  let c0_423 : Index := 0#32
  ![v413.toNat, 0]
def k0_off139 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v415 : Index := Scalar.indexCast arg18
  let c0_424 : Index := 0#32
  ![v415.toNat, 0]
def k0_off140 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v421 : Index := Scalar.indexCast arg18
  let c16_425 : Index := 16#32
  ![v421.toNat, 16]
def k0_off141 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v427 : Index := Scalar.indexCast arg18
  let c32_426 : Index := 32#32
  ![v427.toNat, 32]
def k0_off142 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v433 : Index := Scalar.indexCast arg18
  let c48_427 : Index := 48#32
  ![v433.toNat, 48]
def k0_off143 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v439 : Index := Scalar.indexCast arg18
  let c64_428 : Index := 64#32
  ![v439.toNat, 64]
def k0_off144 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v445 : Index := Scalar.indexCast arg18
  let c80_429 : Index := 80#32
  ![v445.toNat, 80]
def k0_off145 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v451 : Index := Scalar.indexCast arg18
  let c96_430 : Index := 96#32
  ![v451.toNat, 96]
def k0_off146 (k0_t16 : Fin k0_t16_loop.trips) : Fin 2 → Nat :=
  let c0_i32_264 : BitVec 32 := 0#32
  let c1_i32_266 : BitVec 32 := 1#32
  let arg18 : BitVec 32 := Scf.iv c0_i32_264 c1_i32_266 k0_t16
  let v457 : Index := Scalar.indexCast arg18
  let c112_431 : Index := 112#32
  ![v457.toNat, 112]
@[reducible] def k0_t17_loop : Scf.Loop 32 :=
  let c0_i32_280 : BitVec 32 := 0#32
  let c125_i32_281 : BitVec 32 := 125#32
  let v271 : BitVec 32 := Scalar.addi c0_i32_280 c125_i32_281
  let c1_i32_282 : BitVec 32 := 1#32
  ⟨c0_i32_280, v271, c1_i32_282⟩
def k0_off147 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v413 : Index := Scalar.indexCast arg18
  let c0_423 : Index := 0#32
  ![v413.toNat, 0]
def k0_off148 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v415 : Index := Scalar.indexCast arg18
  let c0_424 : Index := 0#32
  ![v415.toNat, 0]
def k0_off149 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v421 : Index := Scalar.indexCast arg18
  let c16_425 : Index := 16#32
  ![v421.toNat, 16]
def k0_off150 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v427 : Index := Scalar.indexCast arg18
  let c32_426 : Index := 32#32
  ![v427.toNat, 32]
def k0_off151 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v433 : Index := Scalar.indexCast arg18
  let c48_427 : Index := 48#32
  ![v433.toNat, 48]
def k0_off152 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v439 : Index := Scalar.indexCast arg18
  let c64_428 : Index := 64#32
  ![v439.toNat, 64]
def k0_off153 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v445 : Index := Scalar.indexCast arg18
  let c80_429 : Index := 80#32
  ![v445.toNat, 80]
def k0_off154 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v451 : Index := Scalar.indexCast arg18
  let c96_430 : Index := 96#32
  ![v451.toNat, 96]
def k0_off155 (k0_t17 : Fin k0_t17_loop.trips) : Fin 2 → Nat :=
  let c0_i32_280 : BitVec 32 := 0#32
  let c1_i32_282 : BitVec 32 := 1#32
  let arg18 : BitVec 32 := Scf.iv c0_i32_280 c1_i32_282 k0_t17
  let v457 : Index := Scalar.indexCast arg18
  let c112_431 : Index := 112#32
  ![v457.toNat, 112]
@[reducible] def k0_t18_loop : Scf.Loop 32 :=
  let c0_i32_296 : BitVec 32 := 0#32
  let c125_i32_297 : BitVec 32 := 125#32
  let v286 : BitVec 32 := Scalar.addi c0_i32_296 c125_i32_297
  let c1_i32_298 : BitVec 32 := 1#32
  ⟨c0_i32_296, v286, c1_i32_298⟩
def k0_off156 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v413 : Index := Scalar.indexCast arg18
  let c0_423 : Index := 0#32
  ![v413.toNat, 0]
def k0_off157 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v415 : Index := Scalar.indexCast arg18
  let c0_424 : Index := 0#32
  ![v415.toNat, 0]
def k0_off158 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v421 : Index := Scalar.indexCast arg18
  let c16_425 : Index := 16#32
  ![v421.toNat, 16]
def k0_off159 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v427 : Index := Scalar.indexCast arg18
  let c32_426 : Index := 32#32
  ![v427.toNat, 32]
def k0_off160 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v433 : Index := Scalar.indexCast arg18
  let c48_427 : Index := 48#32
  ![v433.toNat, 48]
def k0_off161 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v439 : Index := Scalar.indexCast arg18
  let c64_428 : Index := 64#32
  ![v439.toNat, 64]
def k0_off162 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v445 : Index := Scalar.indexCast arg18
  let c80_429 : Index := 80#32
  ![v445.toNat, 80]
def k0_off163 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v451 : Index := Scalar.indexCast arg18
  let c96_430 : Index := 96#32
  ![v451.toNat, 96]
def k0_off164 (k0_t18 : Fin k0_t18_loop.trips) : Fin 2 → Nat :=
  let c0_i32_296 : BitVec 32 := 0#32
  let c1_i32_298 : BitVec 32 := 1#32
  let arg18 : BitVec 32 := Scf.iv c0_i32_296 c1_i32_298 k0_t18
  let v457 : Index := Scalar.indexCast arg18
  let c112_431 : Index := 112#32
  ![v457.toNat, 112]
@[reducible] def k0_t19_loop : Scf.Loop 32 :=
  let c0_i32_312 : BitVec 32 := 0#32
  let c125_i32_313 : BitVec 32 := 125#32
  let v301 : BitVec 32 := Scalar.addi c0_i32_312 c125_i32_313
  let c1_i32_314 : BitVec 32 := 1#32
  ⟨c0_i32_312, v301, c1_i32_314⟩
def k0_off165 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v413 : Index := Scalar.indexCast arg18
  let c0_423 : Index := 0#32
  ![v413.toNat, 0]
def k0_off166 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v415 : Index := Scalar.indexCast arg18
  let c0_424 : Index := 0#32
  ![v415.toNat, 0]
def k0_off167 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v421 : Index := Scalar.indexCast arg18
  let c16_425 : Index := 16#32
  ![v421.toNat, 16]
def k0_off168 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v427 : Index := Scalar.indexCast arg18
  let c32_426 : Index := 32#32
  ![v427.toNat, 32]
def k0_off169 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v433 : Index := Scalar.indexCast arg18
  let c48_427 : Index := 48#32
  ![v433.toNat, 48]
def k0_off170 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v439 : Index := Scalar.indexCast arg18
  let c64_428 : Index := 64#32
  ![v439.toNat, 64]
def k0_off171 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v445 : Index := Scalar.indexCast arg18
  let c80_429 : Index := 80#32
  ![v445.toNat, 80]
def k0_off172 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v451 : Index := Scalar.indexCast arg18
  let c96_430 : Index := 96#32
  ![v451.toNat, 96]
def k0_off173 (k0_t19 : Fin k0_t19_loop.trips) : Fin 2 → Nat :=
  let c0_i32_312 : BitVec 32 := 0#32
  let c1_i32_314 : BitVec 32 := 1#32
  let arg18 : BitVec 32 := Scf.iv c0_i32_312 c1_i32_314 k0_t19
  let v457 : Index := Scalar.indexCast arg18
  let c112_431 : Index := 112#32
  ![v457.toNat, 112]
@[reducible] def k0_t20_loop : Scf.Loop 32 :=
  let c0_i32_328 : BitVec 32 := 0#32
  let c125_i32_329 : BitVec 32 := 125#32
  let v316 : BitVec 32 := Scalar.addi c0_i32_328 c125_i32_329
  let c1_i32_330 : BitVec 32 := 1#32
  ⟨c0_i32_328, v316, c1_i32_330⟩
def k0_off174 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v413 : Index := Scalar.indexCast arg18
  let c0_423 : Index := 0#32
  ![v413.toNat, 0]
def k0_off175 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v415 : Index := Scalar.indexCast arg18
  let c0_424 : Index := 0#32
  ![v415.toNat, 0]
def k0_off176 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v421 : Index := Scalar.indexCast arg18
  let c16_425 : Index := 16#32
  ![v421.toNat, 16]
def k0_off177 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v427 : Index := Scalar.indexCast arg18
  let c32_426 : Index := 32#32
  ![v427.toNat, 32]
def k0_off178 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v433 : Index := Scalar.indexCast arg18
  let c48_427 : Index := 48#32
  ![v433.toNat, 48]
def k0_off179 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v439 : Index := Scalar.indexCast arg18
  let c64_428 : Index := 64#32
  ![v439.toNat, 64]
def k0_off180 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v445 : Index := Scalar.indexCast arg18
  let c80_429 : Index := 80#32
  ![v445.toNat, 80]
def k0_off181 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v451 : Index := Scalar.indexCast arg18
  let c96_430 : Index := 96#32
  ![v451.toNat, 96]
def k0_off182 (k0_t20 : Fin k0_t20_loop.trips) : Fin 2 → Nat :=
  let c0_i32_328 : BitVec 32 := 0#32
  let c1_i32_330 : BitVec 32 := 1#32
  let arg18 : BitVec 32 := Scf.iv c0_i32_328 c1_i32_330 k0_t20
  let v457 : Index := Scalar.indexCast arg18
  let c112_431 : Index := 112#32
  ![v457.toNat, 112]
@[reducible] def k0_t21_loop : Scf.Loop 32 :=
  let c0_i32_344 : BitVec 32 := 0#32
  let c125_i32_345 : BitVec 32 := 125#32
  let v331 : BitVec 32 := Scalar.addi c0_i32_344 c125_i32_345
  let c1_i32_346 : BitVec 32 := 1#32
  ⟨c0_i32_344, v331, c1_i32_346⟩
def k0_off183 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v413 : Index := Scalar.indexCast arg18
  let c0_423 : Index := 0#32
  ![v413.toNat, 0]
def k0_off184 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v415 : Index := Scalar.indexCast arg18
  let c0_424 : Index := 0#32
  ![v415.toNat, 0]
def k0_off185 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v421 : Index := Scalar.indexCast arg18
  let c16_425 : Index := 16#32
  ![v421.toNat, 16]
def k0_off186 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v427 : Index := Scalar.indexCast arg18
  let c32_426 : Index := 32#32
  ![v427.toNat, 32]
def k0_off187 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v433 : Index := Scalar.indexCast arg18
  let c48_427 : Index := 48#32
  ![v433.toNat, 48]
def k0_off188 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v439 : Index := Scalar.indexCast arg18
  let c64_428 : Index := 64#32
  ![v439.toNat, 64]
def k0_off189 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v445 : Index := Scalar.indexCast arg18
  let c80_429 : Index := 80#32
  ![v445.toNat, 80]
def k0_off190 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v451 : Index := Scalar.indexCast arg18
  let c96_430 : Index := 96#32
  ![v451.toNat, 96]
def k0_off191 (k0_t21 : Fin k0_t21_loop.trips) : Fin 2 → Nat :=
  let c0_i32_344 : BitVec 32 := 0#32
  let c1_i32_346 : BitVec 32 := 1#32
  let arg18 : BitVec 32 := Scf.iv c0_i32_344 c1_i32_346 k0_t21
  let v457 : Index := Scalar.indexCast arg18
  let c112_431 : Index := 112#32
  ![v457.toNat, 112]
@[reducible] def k0_t22_loop : Scf.Loop 32 :=
  let c0_i32_360 : BitVec 32 := 0#32
  let c125_i32_361 : BitVec 32 := 125#32
  let v346 : BitVec 32 := Scalar.addi c0_i32_360 c125_i32_361
  let c1_i32_362 : BitVec 32 := 1#32
  ⟨c0_i32_360, v346, c1_i32_362⟩
def k0_off192 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v413 : Index := Scalar.indexCast arg18
  let c0_423 : Index := 0#32
  ![v413.toNat, 0]
def k0_off193 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v415 : Index := Scalar.indexCast arg18
  let c0_424 : Index := 0#32
  ![v415.toNat, 0]
def k0_off194 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v421 : Index := Scalar.indexCast arg18
  let c16_425 : Index := 16#32
  ![v421.toNat, 16]
def k0_off195 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v427 : Index := Scalar.indexCast arg18
  let c32_426 : Index := 32#32
  ![v427.toNat, 32]
def k0_off196 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v433 : Index := Scalar.indexCast arg18
  let c48_427 : Index := 48#32
  ![v433.toNat, 48]
def k0_off197 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v439 : Index := Scalar.indexCast arg18
  let c64_428 : Index := 64#32
  ![v439.toNat, 64]
def k0_off198 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v445 : Index := Scalar.indexCast arg18
  let c80_429 : Index := 80#32
  ![v445.toNat, 80]
def k0_off199 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v451 : Index := Scalar.indexCast arg18
  let c96_430 : Index := 96#32
  ![v451.toNat, 96]
def k0_off200 (k0_t22 : Fin k0_t22_loop.trips) : Fin 2 → Nat :=
  let c0_i32_360 : BitVec 32 := 0#32
  let c1_i32_362 : BitVec 32 := 1#32
  let arg18 : BitVec 32 := Scf.iv c0_i32_360 c1_i32_362 k0_t22
  let v457 : Index := Scalar.indexCast arg18
  let c112_431 : Index := 112#32
  ![v457.toNat, 112]
@[reducible] def k0_t23_loop : Scf.Loop 32 :=
  let c0_i32_376 : BitVec 32 := 0#32
  let c125_i32_377 : BitVec 32 := 125#32
  let v361 : BitVec 32 := Scalar.addi c0_i32_376 c125_i32_377
  let c1_i32_378 : BitVec 32 := 1#32
  ⟨c0_i32_376, v361, c1_i32_378⟩
def k0_off201 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v413 : Index := Scalar.indexCast arg18
  let c0_423 : Index := 0#32
  ![v413.toNat, 0]
def k0_off202 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v415 : Index := Scalar.indexCast arg18
  let c0_424 : Index := 0#32
  ![v415.toNat, 0]
def k0_off203 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v421 : Index := Scalar.indexCast arg18
  let c16_425 : Index := 16#32
  ![v421.toNat, 16]
def k0_off204 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v427 : Index := Scalar.indexCast arg18
  let c32_426 : Index := 32#32
  ![v427.toNat, 32]
def k0_off205 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v433 : Index := Scalar.indexCast arg18
  let c48_427 : Index := 48#32
  ![v433.toNat, 48]
def k0_off206 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v439 : Index := Scalar.indexCast arg18
  let c64_428 : Index := 64#32
  ![v439.toNat, 64]
def k0_off207 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v445 : Index := Scalar.indexCast arg18
  let c80_429 : Index := 80#32
  ![v445.toNat, 80]
def k0_off208 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v451 : Index := Scalar.indexCast arg18
  let c96_430 : Index := 96#32
  ![v451.toNat, 96]
def k0_off209 (k0_t23 : Fin k0_t23_loop.trips) : Fin 2 → Nat :=
  let c0_i32_376 : BitVec 32 := 0#32
  let c1_i32_378 : BitVec 32 := 1#32
  let arg18 : BitVec 32 := Scf.iv c0_i32_376 c1_i32_378 k0_t23
  let v457 : Index := Scalar.indexCast arg18
  let c112_431 : Index := 112#32
  ![v457.toNat, 112]
@[reducible] def k0_t24_loop : Scf.Loop 32 :=
  let c0_i32_392 : BitVec 32 := 0#32
  let c125_i32_393 : BitVec 32 := 125#32
  let v376 : BitVec 32 := Scalar.addi c0_i32_392 c125_i32_393
  let c1_i32_394 : BitVec 32 := 1#32
  ⟨c0_i32_392, v376, c1_i32_394⟩
def k0_off210 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v413 : Index := Scalar.indexCast arg18
  let c0_423 : Index := 0#32
  ![v413.toNat, 0]
def k0_off211 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v415 : Index := Scalar.indexCast arg18
  let c0_424 : Index := 0#32
  ![v415.toNat, 0]
def k0_off212 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v421 : Index := Scalar.indexCast arg18
  let c16_425 : Index := 16#32
  ![v421.toNat, 16]
def k0_off213 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v427 : Index := Scalar.indexCast arg18
  let c32_426 : Index := 32#32
  ![v427.toNat, 32]
def k0_off214 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v433 : Index := Scalar.indexCast arg18
  let c48_427 : Index := 48#32
  ![v433.toNat, 48]
def k0_off215 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v439 : Index := Scalar.indexCast arg18
  let c64_428 : Index := 64#32
  ![v439.toNat, 64]
def k0_off216 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v445 : Index := Scalar.indexCast arg18
  let c80_429 : Index := 80#32
  ![v445.toNat, 80]
def k0_off217 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v451 : Index := Scalar.indexCast arg18
  let c96_430 : Index := 96#32
  ![v451.toNat, 96]
def k0_off218 (k0_t24 : Fin k0_t24_loop.trips) : Fin 2 → Nat :=
  let c0_i32_392 : BitVec 32 := 0#32
  let c1_i32_394 : BitVec 32 := 1#32
  let arg18 : BitVec 32 := Scf.iv c0_i32_392 c1_i32_394 k0_t24
  let v457 : Index := Scalar.indexCast arg18
  let c112_431 : Index := 112#32
  ![v457.toNat, 112]
@[reducible] def k0_t25_loop : Scf.Loop 32 :=
  let c0_i32_403 : BitVec 32 := 0#32
  let c125_i32_404 : BitVec 32 := 125#32
  let v385 : BitVec 32 := Scalar.addi c0_i32_403 c125_i32_404
  let c1_i32_405 : BitVec 32 := 1#32
  ⟨c0_i32_403, v385, c1_i32_405⟩
def k0_off219 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v413 : Index := Scalar.indexCast arg18
  let c0_423 : Index := 0#32
  ![v413.toNat, 0]
def k0_off220 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v415 : Index := Scalar.indexCast arg18
  let c0_424 : Index := 0#32
  ![v415.toNat, 0]
def k0_off221 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v421 : Index := Scalar.indexCast arg18
  let c16_425 : Index := 16#32
  ![v421.toNat, 16]
def k0_off222 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v427 : Index := Scalar.indexCast arg18
  let c32_426 : Index := 32#32
  ![v427.toNat, 32]
def k0_off223 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v433 : Index := Scalar.indexCast arg18
  let c48_427 : Index := 48#32
  ![v433.toNat, 48]
def k0_off224 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v439 : Index := Scalar.indexCast arg18
  let c64_428 : Index := 64#32
  ![v439.toNat, 64]
def k0_off225 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v445 : Index := Scalar.indexCast arg18
  let c80_429 : Index := 80#32
  ![v445.toNat, 80]
def k0_off226 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v451 : Index := Scalar.indexCast arg18
  let c96_430 : Index := 96#32
  ![v451.toNat, 96]
def k0_off227 (k0_t25 : Fin k0_t25_loop.trips) : Fin 2 → Nat :=
  let c0_i32_403 : BitVec 32 := 0#32
  let c1_i32_405 : BitVec 32 := 1#32
  let arg18 : BitVec 32 := Scf.iv c0_i32_403 c1_i32_405 k0_t25
  let v457 : Index := Scalar.indexCast arg18
  let c112_431 : Index := 112#32
  ![v457.toNat, 112]
def k0_off228 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_423_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128 : Shape := ⟨1, ![128]⟩
abbrev S128x1 : Shape := ⟨2, ![128, 1]⟩
abbrev S100000 : Shape := ⟨1, ![100000]⟩
abbrev S1x100000 : Shape := ⟨2, ![1, 100000]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128, .f32⟩
  | .hbm, ⟨2, _⟩ => ⟨S128x1, .f32⟩
  | .hbm, ⟨3, _⟩ => ⟨S100000, .f32⟩
  | .hbm, ⟨4, _⟩ => ⟨S1x100000, .f32⟩
  | .hbm, ⟨5, _⟩ => ⟨S_, .f32⟩
  | .hbm, ⟨6, _⟩ => ⟨S128x1, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S128x100000, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S128x100000, .f32⟩
  | .hbm, ⟨16, _⟩ => ⟨S_, .f32⟩
  | .hbm, ⟨17, _⟩ => ⟨S128x100000, .f32⟩
  | .hbm, ⟨18, _⟩ => ⟨S128x100000, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x100000, .f32⟩
  | .hbm, ⟨24, _⟩ => ⟨S128x100000, .f32⟩
  | .hbm, ⟨25, _⟩ => ⟨S128x100000, .f32⟩
  | .hbm, ⟨26, _⟩ => ⟨S_, .f32⟩
  | .hbm, ⟨27, _⟩ => ⟨S128x100000, .f32⟩
  | .hbm, ⟨28, _⟩ => ⟨S128x100000, .f32⟩
  | .hbm, ⟨29, _⟩ => ⟨S128x100000, .f32⟩
  | .hbm, ⟨30, _⟩ => ⟨S128x100000, .i32⟩
  | .hbm, ⟨31, _⟩ => ⟨S_, .f32⟩
  | .hbm, ⟨32, _⟩ => ⟨S_, .i32⟩
  | .hbm, ⟨33, _⟩ => ⟨S128, .f32⟩
  | .hbm, ⟨34, _⟩ => ⟨S128, .i32⟩
  | .hbm, ⟨35, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_3 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.Tile.lean ====
/-
  The subcore's task written once: a chunk loop's trip, a stage (wait for a chunk, scan it), a refill, and
  the run over the 25 chunks, over the two scratch slots. `TileEq` says that the printed body is this program.
-/
module

public import proofs.«01_k».proof.Defs
public import proofs.«01_k».proof.Proof.Gen.KernelIdeal

@[expose] public section

noncomputable section

namespace Cert.Proof.Tile

open Cert.KernelIdeal Cert.KernelIdeal.Gen
open Idealize.ShloMosaic Idealize.SL Idealize.SL.Sem

variable {F : FTy → Type} [FloatOps F]

/-- Sixteen floats, and sixteen column numbers: one vector register each. -/
abbrev VF (F : FTy → Type) := FVec F S16 .f32
abbrev VI := IVec S16 32
/-- A light group's registers (its maximum, that maximum's column, the runner-up before it), ahead of `X`. -/
abbrev Lt (F : FTy → Type) (X : Type) := VF F × VI × VF F × X
/-- What a scan carries: the heavy group's maximum and column, then the seven light groups' registers. -/
abbrev Acc (F : FTy → Type) := VF F × VI × Lt F (Lt F (Lt F (Lt F (Lt F (Lt F (VF F × VI × VF F))))))

/-- The carry from its parts: the heavy group `h` and the light groups `l`. -/
abbrev pack (h : VF F × VI) (l : Fin 7 → VF F × VI × VF F) : Acc F :=
  (h.1, h.2, (l 0).1, (l 0).2.1, (l 0).2.2, (l 1).1, (l 1).2.1, (l 1).2.2, (l 2).1, (l 2).2.1, (l 2).2.2,
    (l 3).1, (l 3).2.1, (l 3).2.2, (l 4).1, (l 4).2.1, (l 4).2.2, (l 5).1, (l 5).2.1, (l 5).2.2,
    (l 6).1, (l 6).2.1, (l 6).2.2)
/-- The carry's heavy part. -/
abbrev heavy (a : Acc F) : VF F × VI := (a.1, a.2.1)
/-- The carry's light part of group `g + 1`. -/
abbrev light (a : Acc F) : Fin 7 → VF F × VI × VF F :=
  match a with
  | (_, _, a0, a1, a2, b0, b1, b2, c0, c1, c2, d0, d1, d2, e0, e1, e2, f0, f1, f2, g0, g1, g2) =>
    ![(a0, a1, a2), (b0, b1, b2), (c0, c1, c2), (d0, d1, d2), (e0, e1, e2), (f0, f1, f2), (g0, g1, g2)]

/-- The heavy group after a column: value plus bonus against the maximum so far. -/
def updH (w : VI) (x bo : VF F) (h : VF F × VI) : VF F × VI :=
  (select (cmpf .ogt (addf x bo) h.1) (addf x bo) h.1, select (cmpf .ogt (addf x bo) h.1) w h.2)
/-- A light group after a column: a strictly larger value takes over and leaves the old maximum as runner-up. -/
def updL (w : VI) (x : VF F) (l : VF F × VI × VF F) : VF F × VI × VF F :=
  (select (cmpf .ogt x l.1) x l.1, select (cmpf .ogt x l.1) w l.2.1, select (cmpf .ogt x l.1) l.1 l.2.2)

/-- A row of sixteen as a vector. -/
abbrev flat (x : Vec F S1x16 .f32) : VF F := shapeCast S16 x shapeCasts_S1x16_S16

variable (i : grid0.Coords)

/-- The programs of the vector subcore at `i`. -/
abbrev Tp (F : FTy → Type) (i : grid0.Coords) (α : Type) :=
  Prog (TpuEff nD τ sig (Elt F) Λ₀ (.scVector ((i 0).castLE hcore0) ((i 1).castLE hsub0))) α

/-- The first column of the subcore's shard, as the kernel computes it. -/
abbrev col0 : BitVec 32 :=
  Scalar.muli (Scalar.addi (Scalar.muli (BitVec.ofNat 32 (i 1).val) 2#32) (BitVec.ofNat 32 (i 0).val)) 3125#32

abbrev pT : Memref sig .scVector .hbm S100000x128 .f32 := Memref.whole main_v0_scv
abbrev bT : Memref sig .scVector .hbm S100000x16 .f32 := Memref.whole main_v23_scv
/-- Slot `b`'s scratch for a chunk of columns, and for a chunk of bonuses, and their semaphores. -/
abbrev bufP : Bool → Memref sig .scVector .vmem S125x128 .f32
  | false => Memref.whole cc0_scratch0
  | true => Memref.whole cc0_scratch1
abbrev bufB : Bool → Memref sig .scVector .vmem S125x16 .f32
  | false => Memref.whole cc0_scratch2
  | true => Memref.whole cc0_scratch3
abbrev semP : Bool → DmaSems sig S_
  | false => cc0_scratch7
  | true => cc0_scratch8
abbrev semB : Bool → DmaSems sig S_
  | false => cc0_scratch9
  | true => cc0_scratch10
theorem bufP_whole : ∀ b, (bufP b).IsWhole
  | false => Memref.isWhole_whole _
  | true => Memref.isWhole_whole _
theorem bufB_whole : ∀ b, (bufB b).IsWhole
  | false => Memref.isWhole_whole _
  | true => Memref.isWhole_whole _

/-- Chunk `c` of the subcore's columns, in the transposed table and in the bonus table. -/
abbrev srcP (c : Fin 25) : Memref sig .scVector .hbm S125x128 .f32 :=
  pT.slice (Rect.unit (s := S100000x128) (k0_off1 i (BitVec.ofNat 32 (125 * c.val))) S125x128.size (k0_off1_inb i c)) (fun _ => rfl)
abbrev srcB (c : Fin 25) : Memref sig .scVector .hbm S125x16 .f32 :=
  bT.slice (Rect.unit (s := S100000x16) (k0_off2 i (BitVec.ofNat 32 (125 * c.val))) S125x16.size (k0_off2_inb i c)) (fun _ => rfl)

/-- One column of a chunk: nine loads and the update of the carry. -/
def trip (pb : Memref sig .scVector .vmem S125x128 .f32) (bb : Memref sig .scVector .vmem S125x16 .f32) (base : BitVec 32)
    (k : Fin k0_t1_loop.trips) (a : Acc F) : Tp F i (Acc F) := do
  let w : VI := broadcast S16 (Scalar.addi base (Scf.iv 0#32 1#32 k))
  let x0 : Vec F S1x16 .f32 ← Prog.lift (.load pb (Rect.unit (s := S125x128) (k0_off3 k) S1x16.size (k0_off3_inb k)).toLoadRect (View.loadsAt_vmem h_S1x16))
  let bo : Vec F S1x16 .f32 ← Prog.lift (.load bb (Rect.unit (s := S125x16) (k0_off4 k) S1x16.size (k0_off4_inb k)).toLoadRect (View.loadsAt_vmem h_S1x16))
  let x1 : Vec F S1x16 .f32 ← Prog.lift (.load pb (Rect.unit (s := S125x128) (k0_off5 k) S1x16.size (k0_off5_inb k)).toLoadRect (View.loadsAt_vmem h_S1x16))
  let x2 : Vec F S1x16 .f32 ← Prog.lift (.load pb (Rect.unit (s := S125x128) (k0_off6 k) S1x16.size (k0_off6_inb k)).toLoadRect (View.loadsAt_vmem h_S1x16))
  let x3 : Vec F S1x16 .f32 ← Prog.lift (.load pb (Rect.unit (s := S125x128) (k0_off7 k) S1x16.size (k0_off7_inb k)).toLoadRect (View.loadsAt_vmem h_S1x16))
  let x4 : Vec F S1x16 .f32 ← Prog.lift (.load pb (Rect.unit (s := S125x128) (k0_off8 k) S1x16.size (k0_off8_inb k)).toLoadRect (View.loadsAt_vmem h_S1x16))
  let x5 : Vec F S1x16 .f32 ← Prog.lift (.load pb (Rect.unit (s := S125x128) (k0_off9 k) S1x16.size (k0_off9_inb k)).toLoadRect (View.loadsAt_vmem h_S1x16))
  let x6 : Vec F S1x16 .f32 ← Prog.lift (.load pb (Rect.unit (s := S125x128) (k0_off10 k) S1x16.size (k0_off10_inb k)).toLoadRect (View.loadsAt_vmem h_S1x16))
  let x7 : Vec F S1x16 .f32 ← Prog.lift (.load pb (Rect.unit (s := S125x128) (k0_off11 k) S1x16.size (k0_off11_inb k)).toLoadRect (View.loadsAt_vmem h_S1x16))
  pure (pack (updH w (flat x0) (flat bo) (heavy a))
    ![updL w (flat x1) (light a 0), updL w (flat x2) (light a 1), updL w (flat x3) (light a 2), updL w (flat x4) (light a 3),
      updL w (flat x5) (light a 4), updL w (flat x6) (light a 5), updL w (flat x7) (light a 6)])

/-- The first word of chunk `c`. -/
abbrev base (c : Fin 25) : BitVec 32 := Scalar.addi (col0 i) (BitVec.ofNat 32 (125 * c.val))

/-- The scan of a chunk. -/
def scan (b : Bool) (c : Fin 25) (a : Acc F) : Tp F i (Acc F) :=
  Scf.Loop.for k0_t1_loop k0_t1_ok a (trip i (bufP b) (bufB b) (base i c))

/-- Start the copies of chunk `c` into slot `b`. -/
def start (b : Bool) (c : Fin 25) : Tp F i PUnit := do
  Prog.lift (.enqueueDma (srcP i c) (.here (bufP b)) (.dma (semP b).sem) (View.wordExact_bits rfl) (bufP_whole b).wordExact ⟨Or.inl rfl, trivial⟩)
  Prog.lift (.enqueueDma (srcB i c) (.here (bufB b)) (.dma (semB b).sem) (View.wordExact_bits rfl) (bufB_whole b).wordExact ⟨Or.inl rfl, trivial⟩)

/-- Wait for chunk `c` in slot `b`, and scan it. -/
def stage (b : Bool) (c : Fin 25) (a : Acc F) : Tp F i (Acc F) := do
  Prog.lift (.waitDma2 (semP b).sem (srcP i c) (bufP b) (View.wordExact_bits rfl) (bufP_whole b).wordExact)
  Prog.lift (.waitDma2 (semB b).sem (srcB i c) (bufB b) (View.wordExact_bits rfl) (bufB_whole b).wordExact)
  scan i b c a

/-- From chunk `k`, `n` stages each refilled two chunks ahead, then the last two. -/
def run : (n k : ℕ) → (b : Bool) → (h : k + n + 2 = 25) → Acc F → Tp F i (Acc F)
  | 0, k, b, h, a => do
    let a ← stage i b ⟨k, by omega⟩ a
    stage i (!b) ⟨k + 1, by omega⟩ a
  | n + 1, k, b, h, a => do
    let a ← stage i b ⟨k, by omega⟩ a
    start i b ⟨k + 2, by omega⟩
    run n (k + 1) (!b) (by omega) a

abbrev negInf : VF F := broadcast S16 (Scalar.ofBits .f32 0xFF800000#32)
abbrev zeroI : VI := broadcast S16 0#32
/-- The carry a scan begins from. -/
abbrev acc0 : Acc F := pack (negInf, zeroI) fun _ => (negInf, zeroI, negInf)

/-! ## What a tile leaves -/

abbrev outV : Memref sig .scVector .vmem S128 .f32 := Memref.whole cc0_scratch4
abbrev outI : Memref sig .scVector .vmem S128 .i32 := Memref.whole cc0_scratch5
abbrev outM : Memref sig .scVector .vmem S128 .f32 := Memref.whole cc0_scratch6

/-- Store one group's maximum, column and runner-up at offset `o` of the three result scratches. -/
def put (ov : Memref sig .scVector .vmem S128 .f32) (oi : Memref sig .scVector .vmem S128 .i32) (om : Memref sig .scVector .vmem S128 .f32) (o : ℕ) (h : ∀ a, (![o] : Fin 1 → ℕ) a + S16.size a ≤ S128.size a) (x : VF F) (y : VI) (z : VF F) : Tp F i PUnit := do
  let _ : Vec F S16 .f32 ← Prog.lift (.load ov (Rect.unit (s := S128) ![o] S16.size h).toLoadRect (View.loadsAt_vmem h_S16))
  Prog.lift (.store ov (Rect.unit (s := S128) ![o] S16.size h) x Finset.univ (View.stores_vmem_bits_univ h_S16 rfl) (.inl rfl))
  let _ : Vec F S16 .i32 ← Prog.lift (.load oi (Rect.unit (s := S128) ![o] S16.size h).toLoadRect (View.loadsAt_vmem h_S16))
  Prog.lift (.store oi (Rect.unit (s := S128) ![o] S16.size h) y Finset.univ (View.stores_vmem_bits_univ h_S16 rfl) (.inl rfl))
  let _ : Vec F S16 .f32 ← Prog.lift (.load om (Rect.unit (s := S128) ![o] S16.size h).toLoadRect (View.loadsAt_vmem h_S16))
  Prog.lift (.store om (Rect.unit (s := S128) ![o] S16.size h) z Finset.univ (View.stores_vmem_bits_univ h_S16 rfl) (.inl rfl))

/-- The subcore's row of a result. -/
abbrev rowOf {t} (r : Memref sig .scVector .hbm S32x128 t) : Memref sig .scVector .hbm S128 t :=
  (r.slice (Rect.unit (s := S32x128) (k0_off228 i) S1x128.size (k0_off228_inb i)) (fun _ => rfl)).squeeze S128 squeezes_S1x128_S128

abbrev resV : Memref sig .scVector .hbm S32x128 .f32 := Memref.whole main_v24_0_scv
abbrev resI : Memref sig .scVector .hbm S32x128 .i32 := Memref.whole main_v24_1_scv
abbrev resM : Memref sig .scVector .hbm S32x128 .f32 := Memref.whole main_v24_2_scv

/-- Store the carry in the result scratches, then copy each to its row of the results. -/
def finish (a : Acc F) : Tp F i PUnit := do
  put i outV outI outM 0 inb_S128_S16_0 a.1 a.2.1 negInf
  put i outV outI outM 16 inb_S128_S16_16 (light a 0).1 (light a 0).2.1 (light a 0).2.2
  put i outV outI outM 32 inb_S128_S16_32 (light a 1).1 (light a 1).2.1 (light a 1).2.2
  put i outV outI outM 48 inb_S128_S16_48 (light a 2).1 (light a 2).2.1 (light a 2).2.2
  put i outV outI outM 64 inb_S128_S16_64 (light a 3).1 (light a 3).2.1 (light a 3).2.2
  put i outV outI outM 80 inb_S128_S16_80 (light a 4).1 (light a 4).2.1 (light a 4).2.2
  put i outV outI outM 96 inb_S128_S16_96 (light a 5).1 (light a 5).2.1 (light a 5).2.2
  put i outV outI outM 112 inb_S128_S16_112 (light a 6).1 (light a 6).2.1 (light a 6).2.2
  Prog.lift (.enqueueDma outV (.here (rowOf i resV)) (.dma cc0_scoped0.sem) (Memref.isWhole_whole _).wordExact (View.wordExact_bits rfl) ⟨Or.inl rfl, trivial⟩)
  Prog.lift (.waitDma2 cc0_scoped0.sem outV (rowOf i resV) (Memref.isWhole_whole _).wordExact (View.wordExact_bits rfl))
  Prog.lift (.enqueueDma outI (.here (rowOf i resI)) (.dma cc0_scoped1.sem) (Memref.isWhole_whole _).wordExact (View.wordExact_bits rfl) ⟨Or.inl rfl, trivial⟩)
  Prog.lift (.waitDma2 cc0_scoped1.sem outI (rowOf i resI) (Memref.isWhole_whole _).wordExact (View.wordExact_bits rfl))
  Prog.lift (.enqueueDma outM (.here (rowOf i resM)) (.dma cc0_scoped2.sem) (Memref.isWhole_whole _).wordExact (View.wordExact_bits rfl) ⟨Or.inl rfl, trivial⟩)
  Prog.lift (.waitDma2 cc0_scoped2.sem outM (rowOf i resM) (Memref.isWhole_whole _).wordExact (View.wordExact_bits rfl))

/-- The subcore's task. -/
def tile : Tp F i PUnit := do
  start i false 0
  start i true 1
  let a ← run i 23 0 false (by omega) acc0
  finish i a

end Cert.Proof.Tile
-- ==== Proof.Fold.lean ====
/-
  What a scan computes, column by column: for a heavy row the first maximum of value plus bonus, for a light row
  the first maximum of the values and the maximum before it — each a fold of one comparison per column. One trip of
  the chunk loop takes the carry at `n` columns to the carry at `n + 1`.
-/
module

public import proofs.«01_k».proof.Proof.Tile
public import Idealize.ShloMosaic.Lib.Pipeline.Value

@[expose] public section

noncomputable section

namespace Cert.Proof.Tile

open Cert.KernelIdeal Cert.KernelIdeal.Gen
open Idealize.ShloMosaic Idealize.SL Idealize.SL.Sem

variable {F : FTy → Type} [FloatOps F]

/-- A heavy row's maximum and column after the column `w` of value `x` and bonus `b`. -/
def hStep (w : BitVec 32) (x b : F .f32) (h : F .f32 × BitVec 32) : F .f32 × BitVec 32 :=
  (Scalar.select (FloatOps.cmpf .ogt (FloatOps.addf x b) h.1) (FloatOps.addf x b) h.1,
    Scalar.select (FloatOps.cmpf .ogt (FloatOps.addf x b) h.1) w h.2)
/-- A light row's maximum, column and runner-up after the column `w` of value `x`. -/
def lStep (w : BitVec 32) (x : F .f32) (l : F .f32 × BitVec 32 × F .f32) : F .f32 × BitVec 32 × F .f32 :=
  (Scalar.select (FloatOps.cmpf .ogt x l.1) x l.1, Scalar.select (FloatOps.cmpf .ogt x l.1) w l.2.1,
    Scalar.select (FloatOps.cmpf .ogt x l.1) l.1 l.2.2)

/-- The float every maximum begins from. -/
abbrev ninf : F .f32 := Scalar.ofBits .f32 0xFF800000#32

/-- A heavy row's fold over the `n` columns from `j0`. -/
def hFold (x b : ℕ → F .f32) (j0 : ℕ) : ℕ → F .f32 × BitVec 32
  | 0 => (ninf, 0#32)
  | n + 1 => hStep (BitVec.ofNat 32 (j0 + n)) (x (j0 + n)) (b (j0 + n)) (hFold x b j0 n)
/-- A light row's fold over the `n` columns from `j0`. -/
def lFold (x : ℕ → F .f32) (j0 : ℕ) : ℕ → F .f32 × BitVec 32 × F .f32
  | 0 => (ninf, 0#32, ninf)
  | n + 1 => lStep (BitVec.ofNat 32 (j0 + n)) (x (j0 + n)) (lFold x j0 n)

/-- Column `j` of row `r` in the transposed table, and in the table of bonuses. -/
def cellP (j r : ℕ) : S100000x128.Idx := fun
  | 0 => Fin.ofNat 100000 j | 1 => Fin.ofNat 128 r | ⟨_ + 2, h⟩ => absurd h (Nat.not_lt.2 (Nat.le_add_left _ _))
def cellB (j r : ℕ) : S100000x16.Idx := fun
  | 0 => Fin.ofNat 100000 j | 1 => Fin.ofNat 16 r | ⟨_ + 2, h⟩ => absurd h (Nat.not_lt.2 (Nat.le_add_left _ _))

variable (P : S100000x128.Idx → F .f32) (B : S100000x16.Idx → F .f32)

abbrev colP (r : ℕ) (j : ℕ) : F .f32 := P (cellP j r)
abbrev colB (r : ℕ) (j : ℕ) : F .f32 := B (cellB j r)

/-- The carry after the `n` columns from `j0`: lane `l` of the heavy group is row `l`, of light group `g` row
    `16 (g + 1) + l`. -/
def accAt (j0 n : ℕ) : Acc F :=
  pack (fun l => (hFold (colP P (l 0).val) (colB B (l 0).val) j0 n).1, fun l => (hFold (colP P (l 0).val) (colB B (l 0).val) j0 n).2)
    fun g => (fun l => (lFold (colP P (16 * (g.val + 1) + (l 0).val)) j0 n).1, fun l => (lFold (colP P (16 * (g.val + 1) + (l 0).val)) j0 n).2.1,
      fun l => (lFold (colP P (16 * (g.val + 1) + (l 0).val)) j0 n).2.2)

theorem accAt_zero (j0 : ℕ) : accAt P B j0 0 = acc0 := rfl

/-- One column further: the update of the carry, from registers that hold column `j0 + n`. -/
theorem accAt_succ (j0 n : ℕ) (w : VI) (x0 bo x1 x2 x3 x4 x5 x6 x7 : VF F)
    (hw : w = fun _ => BitVec.ofNat 32 (j0 + n)) (h0 : x0 = fun l => colP P (0 + (l 0).val) (j0 + n))
    (hb : bo = fun l => colB B (0 + (l 0).val) (j0 + n)) (h1 : x1 = fun l => colP P (16 + (l 0).val) (j0 + n))
    (h2 : x2 = fun l => colP P (32 + (l 0).val) (j0 + n)) (h3 : x3 = fun l => colP P (48 + (l 0).val) (j0 + n))
    (h4 : x4 = fun l => colP P (64 + (l 0).val) (j0 + n)) (h5 : x5 = fun l => colP P (80 + (l 0).val) (j0 + n))
    (h6 : x6 = fun l => colP P (96 + (l 0).val) (j0 + n)) (h7 : x7 = fun l => colP P (112 + (l 0).val) (j0 + n)) :
    pack (updH w x0 bo (heavy (accAt P B j0 n)))
      ![updL w x1 (light (accAt P B j0 n) 0), updL w x2 (light (accAt P B j0 n) 1), updL w x3 (light (accAt P B j0 n) 2),
        updL w x4 (light (accAt P B j0 n) 3), updL w x5 (light (accAt P B j0 n) 4), updL w x6 (light (accAt P B j0 n) 5),
        updL w x7 (light (accAt P B j0 n) 6)] = accAt P B j0 (n + 1) := by
  subst hw h0 hb h1 h2 h3 h4 h5 h6 h7
  simp only [Nat.zero_add]
  rfl

end Cert.Proof.Tile
-- ==== Proof.TileWp.lean ====
/-
  The run of one subcore's task: from read shares of the two tables, its own scratch and semaphores, and its rows of
  the results, to its rows holding the folds over its columns.
-/
module

public import proofs.«01_k».proof.Proof.Fold
public import Idealize.ShloMosaic.Lib.SparseCore.Quiescent
public import Idealize.ShloMosaic.Lib.Pipeline.Kit
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

variable (d : Dev nD) (i : grid0.Coords)

/-- The subcore at `i`. -/
abbrev thr : Thread nD τ := V d ((i 0).castLE hcore0) ((i 1).castLE hsub0)

/-- A load from a buffer just written whole reads what was written. -/
theorem readAt_written {κ : Kind} {sp : Space} {s : Shape} {e : EltTy} {v : View sig κ sp s e} (r : LoadRect s)
    (f : v.ty.Contents (Elt F)) (w : s.Idx → Elt F e) :
    v.readAt (Elt F) r (v.write (Elt F) f w Finset.univ) = fun x => w (r.idx x) := by
  funext x
  rw [View.readAt_apply, View.read_write_univ]

/-- A chunk, as the copy lands it. -/
abbrev chunkP (P : S100000x128.Idx → F .f32) (c : Fin 25) : S125x128.Idx → F .f32 := (srcP i c).view.read (Elt F) P
abbrev chunkB (B : S100000x16.Idx → F .f32) (c : Fin 25) : S125x16.Idx → F .f32 := (srcB i c).view.read (Elt F) B

variable (P : S100000x128.Idx → F .f32) (B : S100000x16.Idx → F .f32)

/-- Slot `b` holds chunk `c`. -/
def Full (b : Bool) (c : Fin 25) : sProp 𝕄 :=
  iprop((∃ f, (bufP b).view.loc (thr d i) ↦{fullShare} (bufP b).view.write (Elt F) f (chunkP i P c) Finset.univ)
    ∗ ∃ f, (bufB b).view.loc (thr d i) ↦{fullShare} (bufB b).view.write (Elt F) f (chunkB i B c) Finset.univ)

/-- A sixteen-wide row of a landed chunk at column offset `o`: the columns' rows `o` to `o + 15`. -/
theorem lane_P (b : Bool) (c : Fin 25) (k : Fin k0_t1_loop.trips) (o j0 : ℕ) (ho : o + 16 ≤ 128) {off : Fin 2 → ℕ} (hoff : off = ![k.val, o])
    (h : ∀ a, off a + S1x16.size a ≤ S125x128.size a) (f : (bufP b).view.ty.Contents (Elt F))
    (hj : j0 = 3125 * (2 * (i 1).val + (i 0).val)) :
    flat ((bufP b).view.readAt (Elt F) (Rect.unit (s := S125x128) off S1x16.size h).toLoadRect
      ((bufP b).view.write (Elt F) f (chunkP i P c) Finset.univ)) = fun l => colP P (o + (l 0).val) (j0 + (125 * c.val + k.val)) := by
  subst hoff hj
  have hk : k.val < 125 := k.isLt
  have h0 : (i 0).val < 2 := (i 0).isLt
  have h1 : (i 1).val < 16 := (i 1).isLt
  have hc := c.isLt
  rw [readAt_written]
  funext l
  have hl : (l 0).val < 16 := (l 0).isLt
  refine (shapeCast_dropUnit_apply ![16] _ _ l).trans ?_
  refine (View.read_apply _ _).trans ((cast_eq _ _).trans (congrArg P ?_))
  funext a
  apply Fin.ext
  match a with
  | 0 =>
    show (k0_off1 i (BitVec.ofNat 32 (125 * c.val))) 0 + 1 * (k.val + 1 * 0) = (Fin.ofNat 100000 _).val
    rw [k0_off1_eq]
    show 6250 * (i 1).val + 3125 * (i 0).val + 125 * c.val + 1 * (k.val + 1 * 0) = _ % 100000
    omega
  | 1 =>
    show (k0_off1 i (BitVec.ofNat 32 (125 * c.val))) 1 + 1 * (o + 1 * (l 0).val) = (Fin.ofNat 128 _).val
    rw [k0_off1_eq]
    show 0 + 1 * (o + 1 * (l 0).val) = _ % 128
    omega

/-- The bonuses of a landed chunk's column. -/
theorem lane_B (b : Bool) (c : Fin 25) (k : Fin k0_t1_loop.trips) (j0 : ℕ) {off : Fin 2 → ℕ} (hoff : off = ![k.val, 0])
    (h : ∀ a, off a + S1x16.size a ≤ S125x16.size a) (f : (bufB b).view.ty.Contents (Elt F))
    (hj : j0 = 3125 * (2 * (i 1).val + (i 0).val)) :
    flat ((bufB b).view.readAt (Elt F) (Rect.unit (s := S125x16) off S1x16.size h).toLoadRect
      ((bufB b).view.write (Elt F) f (chunkB i B c) Finset.univ)) = fun l => colB B (0 + (l 0).val) (j0 + (125 * c.val + k.val)) := by
  subst hoff hj
  have hk : k.val < 125 := k.isLt
  have h0 : (i 0).val < 2 := (i 0).isLt
  have h1 : (i 1).val < 16 := (i 1).isLt
  have hc := c.isLt
  rw [readAt_written]
  funext l
  have hl : (l 0).val < 16 := (l 0).isLt
  refine (shapeCast_dropUnit_apply ![16] _ _ l).trans ?_
  refine (View.read_apply _ _).trans ((cast_eq _ _).trans (congrArg B ?_))
  funext a
  apply Fin.ext
  match a with
  | 0 =>
    show (k0_off2 i (BitVec.ofNat 32 (125 * c.val))) 0 + 1 * (k.val + 1 * 0) = (Fin.ofNat 100000 _).val
    rw [k0_off2_eq]
    show 6250 * (i 1).val + 3125 * (i 0).val + 125 * c.val + 1 * (k.val + 1 * 0) = _ % 100000
    omega
  | 1 =>
    show (k0_off2 i (BitVec.ofNat 32 (125 * c.val))) 1 + 1 * (0 + 1 * (l 0).val) = (Fin.ofNat 16 _).val
    rw [k0_off2_eq]
    show 0 + 1 * (0 + 1 * (l 0).val) = _ % 16
    omega

/-- The column number a trip writes. -/
theorem word_eq (c : Fin 25) (k : Fin k0_t1_loop.trips) (j0 : ℕ) (hj : j0 = 3125 * (2 * (i 1).val + (i 0).val)) :
    (broadcast S16 (Scalar.addi (base i c) (Scf.iv 0#32 1#32 k)) : VI) = fun _ => BitVec.ofNat 32 (j0 + (125 * c.val + k.val)) := by
  subst hj
  have hk : k.val < 125 := k.isLt
  have h0 : (i 0).val < 2 := (i 0).isLt
  have h1 : (i 1).val < 16 := (i 1).isLt
  have hc := c.isLt
  funext l
  show ((BitVec.ofNat 32 (i 1).val * 2#32 + BitVec.ofNat 32 (i 0).val) * 3125#32 + BitVec.ofNat 32 (125 * c.val))
    + (0#32 + BitVec.ofNat 32 k.val * 1#32) = _
  apply BitVec.eq_of_toNat_eq
  simp only [BitVec.toNat_add, BitVec.toNat_mul, BitVec.toNat_ofNat]
  omega

theorem wp_trip (b : Bool) (c : Fin 25) (k : Fin k0_t1_loop.trips) (j0 : ℕ) (hj : j0 = 3125 * (2 * (i 1).val + (i 0).val)) :
    Full d i P B b c
      ⊢ wp frame (wpE (defs₀ (F := F)) 𝒱₀ (thr d i) none) Set.univ
          (trip i (bufP b) (bufB b) (base i c) k (accAt P B j0 (125 * c.val + k.val)))
          fun a => iprop(⌜a = accAt P B j0 (125 * c.val + k.val + 1)⌝ ∗ Full d i P B b c) := by
  unfold Full trip
  simp only [Prog.lift, Prog.bind_op, Prog.bind_ret, Prog.pure_eq_ret]
  iintro ⟨⟨%f, HP⟩, %g, HB⟩
  sl_exec
  rw [wp_ret]
  imodintro
  isplitr
  · ipureintro
    exact accAt_succ P B j0 _ _ _ _ _ _ _ _ _ _ _ (word_eq i c k j0 hj)
      (lane_P i P b c k 0 j0 (by decide) (k0_off3_eq k) _ f hj) (lane_B i B b c k j0 (k0_off4_eq k) _ g hj)
      (lane_P i P b c k 16 j0 (by decide) (k0_off5_eq k) _ f hj) (lane_P i P b c k 32 j0 (by decide) (k0_off6_eq k) _ f hj)
      (lane_P i P b c k 48 j0 (by decide) (k0_off7_eq k) _ f hj) (lane_P i P b c k 64 j0 (by decide) (k0_off8_eq k) _ f hj)
      (lane_P i P b c k 80 j0 (by decide) (k0_off9_eq k) _ f hj) (lane_P i P b c k 96 j0 (by decide) (k0_off10_eq k) _ f hj)
      (lane_P i P b c k 112 j0 (by decide) (k0_off11_eq k) _ f hj)
  · isplitl [HP]
    · iexists f; iexact HP
    · iexists g; iexact HB

/-- The scan of a chunk takes the carry at its first column to the carry at the next chunk's. -/
theorem wp_scan (b : Bool) (c : Fin 25) (j0 : ℕ) (hj : j0 = 3125 * (2 * (i 1).val + (i 0).val)) :
    Full d i P B b c
      ⊢ wp frame (wpE (defs₀ (F := F)) 𝒱₀ (thr d i) none) Set.univ (scan i b c (accAt P B j0 (125 * c.val)))
          fun a => iprop(⌜a = accAt P B j0 (125 * (c.val + 1))⌝ ∗ Full d i P B b c) := by
  unfold scan
  refine BI.Entails.trans ?_ (Scf.wp_for frame (wpE (defs₀ (F := F)) 𝒱₀ (thr d i) none) Set.univ _ _ _ k0_t1_ok _
    (trip i (bufP b) (bufB b) (base i c)) (fun k a => iprop(⌜a = accAt P B j0 (125 * c.val + k)⌝ ∗ Full d i P B b c)) ?_)
  · show Full d i P B b c ⊢ iprop((⌜accAt P B j0 (125 * c.val) = accAt P B j0 (125 * c.val + 0)⌝ ∗ Full d i P B b c) ∗ _)
    iintro H
    isplitl [H]
    · isplitr; · ipureintro; rfl
      iexact H
    · iintro %a ⟨%ha, H⟩
      isplitr
      · ipureintro; exact ha
      · iexact H
  · intro k a
    iintro ⟨%ha, H⟩
    subst ha
    iapply (wp_trip d i P B b c k j0 hj)
    iexact H

end Cert.Proof.Tile
-- ==== Proof.TileRun.lean ====
/-
  The copies of one subcore's task, and its run over the chunks: each stage waits for its chunk, scans it, and starts
  the copy of the chunk two ahead into the slot just scanned.
-/
module

public import proofs.«01_k».proof.Proof.TileWp

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)

/-- What the thread owes, its waits so far being those it began with and its own. -/
def Owing (O : CellTallies nD τ sig (HIx 1)) (W : Waits sig (HIx 1)) : sProp 𝕄 :=
  iprop(∃ W', ⌜∀ p ∈ W', p ∈ W ∨ p.2 = none⌝ ∗ owes (thr d i) O W')

section Copy

variable {sp sp' : Space} {s : Shape} {e : EltTy} (src : Memref sig .scVector sp s e) (dst : Memref sig .scVector sp' s e) (sem : DmaSem sig)
variable (q : PosShare TreeShare) (fs : Buf (Elt F) (src.view.loc (thr d i)))

/-- A copy under way: what its wait will hand back, and the part of the source's array it does not read. -/
def Copying (Sd : Finset (Idx (dst.view.loc (thr d i)))) : sProp 𝕄 :=
  iprop(Transfers.Flight countersEmb (thr d i) (.dma sem) (default : HIx 1) dst.view.dmaCredit
      iprop((∃ f, dst.view.loc (thr d i) ↦[Sd]{fullShare} dst.view.write (Elt F) f (src.view.read (Elt F) fs) Finset.univ)
        ∗ src.view.loc (thr d i) ↦[src.view.set]{q} fs)
    ∗ src.view.loc (thr d i) ↦[Finset.univ \ src.view.set]{q} fs)

theorem wp_copy (hs : 0 < s.numel) {hsrc : src.view.WordExact} {hdst : dst.view.WordExact} {hsem : DmaTarget.Typed (nD := nD) sp (.dma sem) (.here (p := (thr d i).2) dst)}
    {Sd : Finset (Idx (dst.view.loc (thr d i)))} (hSd : dst.view.set ⊆ Sd)
    {α : Type} {k : PUnit → Tp F i α} {Q : α → sProp 𝕄} :
    iprop((src.view.loc (thr d i) ↦{q} fs) ∗ (∃ f, dst.view.loc (thr d i) ↦[Sd]{fullShare} f) ∗ semVal (thr d i, .dma sem) 0)
      ⊢ iprop((Copying d i src dst sem q fs Sd -∗ wp frame (wpE (defs₀ (F := F)) 𝒱₀ (thr d i) none) Set.univ (k ⟨⟩) Q)
          -∗ wp frame (wpE (defs₀ (F := F)) 𝒱₀ (thr d i) none) Set.univ (.op (.enqueueDma src (.here dst) (.dma sem) hsrc hdst hsem) k) Q) := by
  iintro ⟨Hs, ⟨%fd, Hd⟩, Hv⟩ Hk
  ihave Hs' := (pointsTo_split_subset (Finset.subset_univ src.view.set)).1 $$ Hs
  icases Hs' with ⟨Hs, Hrest⟩
  iapply (Transfers.wp_dmaLocal countersEmb 𝒱₀ (thr d i) none (default : HIx 1) dst.view.dmaCredit rfl
    (View.amount_pos dst.view (.dma sem) hs) hSd) $$ [Hs Hd Hv]
  · isplitl [Hs]; · iexact Hs
    isplitl [Hd] <;> iassumption
  iintro Hf
  iapply Hk
  unfold Copying
  isplitl [Hf]
  · iapply (Transfers.Flight_mono countersEmb (thr d i) ?h) $$ Hf
    case h =>
      iintro ⟨Hd, Hs⟩
      isplitl [Hd]
      · iexists fd; iexact Hd
      · iexact Hs
  · iexact Hrest

theorem wp_copied {hsrc : src.view.WordExact} {hdst : dst.view.WordExact} {Sd : Finset (Idx (dst.view.loc (thr d i)))}
    {O : CellTallies nD τ sig (HIx 1)} {W : Waits sig (HIx 1)} {α : Type} {k : PUnit → Tp F i α} {Q : α → sProp 𝕄} :
    iprop(Transfers.MayWaits (thr d i) (none : HIx 1) O ∗ Copying d i src dst sem q fs Sd ∗ Owing d i O W)
      ⊢ iprop((iprop((∃ f, dst.view.loc (thr d i) ↦[Sd]{fullShare} dst.view.write (Elt F) f (src.view.read (Elt F) fs) Finset.univ)
              ∗ (src.view.loc (thr d i) ↦{q} fs) ∗ semVal (thr d i, .dma sem) 0 ∗ Owing d i O W)
            -∗ wp frame (wpE (defs₀ (F := F)) 𝒱₀ (thr d i) none) Set.univ (k ⟨⟩) Q)
          -∗ wp frame (wpE (defs₀ (F := F)) 𝒱₀ (thr d i) none) Set.univ (.op (.waitDma2 sem src dst hsrc hdst) k) Q) := by
  unfold Copying Owing
  iintro ⟨Hmw, ⟨Hf, Hrest⟩, %W', %hW', HO⟩ Hk
  iapply (Transfers.wp_waitLocalO countersEmb 𝒱₀ (thr d i) none (default : HIx 1) rfl) $$ [Hf HO Hmw]
  · isplitl [Hf]; · iexact Hf
    isplitl [HO]; · iexact HO
    iapply (Transfers.MayWaits.elim (SemLoc.dma sem)); iexact Hmw
  iintro ⟨⟨Hd, Hs⟩, Hv, HO⟩
  iapply Hk
  isplitl [Hd]; · iexact Hd
  isplitl [Hs Hrest]
  · iapply (pointsTo_split_subset (Finset.subset_univ src.view.set)).2
    isplitl [Hs] <;> iassumption
  isplitl [Hv]; · iexact Hv
  iexists (insert (SemLoc.dma sem, (default : HIx 1)) W')
  isplitr
  · ipureintro; intro p hp
    rcases Finset.mem_insert.mp hp with hp | hp
    · exact .inr (hp ▸ rfl)
    · exact hW' p hp
  · iexact HO

end Copy

variable (P : S100000x128.Idx → F .f32) (B : S100000x16.Idx → F .f32) (q : Bool → PosShare TreeShare)

/-- Slot `b` with no copy under way. -/
def Idle (b : Bool) : sProp 𝕄 :=
  iprop((∃ f, (bufP b).view.loc (thr d i) ↦{fullShare} f) ∗ (∃ f, (bufB b).view.loc (thr d i) ↦{fullShare} f)
    ∗ (pT.view.loc (thr d i) ↦{q b} P) ∗ (bT.view.loc (thr d i) ↦{q b} B)
    ∗ semVal (thr d i, .dma (semP b).sem) 0 ∗ semVal (thr d i, .dma (semB b).sem) 0)
/-- Slot `b` with the copies of chunk `c` under way. -/
def Busy (b : Bool) (c : Fin 25) : sProp 𝕄 :=
  iprop(Copying d i (srcP i c) (bufP b) (semP b).sem (q b) P Finset.univ ∗ Copying d i (srcB i c) (bufB b) (semB b).sem (q b) B Finset.univ)

theorem wp_start (b : Bool) (c : Fin 25) {α : Type} {k : PUnit → Tp F i α} {Q : α → sProp 𝕄} :
    Idle d i P B q b
      ⊢ iprop((Busy d i P B q b c -∗ wp frame (wpE (defs₀ (F := F)) 𝒱₀ (thr d i) none) Set.univ (k ⟨⟩) Q)
          -∗ wp frame (wpE (defs₀ (F := F)) 𝒱₀ (thr d i) none) Set.univ (start i b c >>= k) Q) := by
  unfold Idle Busy start
  simp only [Prog.lift, Prog.bind_op, Prog.bind_ret, Prog.pure_eq_ret]
  iintro ⟨Hp, Hb, HP, HB, HsP, HsB⟩ Hk
  iapply (wp_copy d i (srcP i c) (bufP b) (semP b).sem (q b) P (by decide) (Finset.subset_univ _)) $$ [HP Hp HsP]
  · isplitl [HP]; · iexact HP
    isplitl [Hp] <;> iassumption
  iintro HcP
  iapply (wp_copy d i (srcB i c) (bufB b) (semB b).sem (q b) B (by decide) (Finset.subset_univ _)) $$ [HB Hb HsB]
  · isplitl [HB]; · iexact HB
    isplitl [Hb] <;> iassumption
  iintro HcB
  iapply Hk
  isplitl [HcP] <;> iassumption

theorem wp_stage (b : Bool) (c : Fin 25) (j0 : ℕ) (hj : j0 = 3125 * (2 * (i 1).val + (i 0).val))
    {O : CellTallies nD τ sig (HIx 1)} {W : Waits sig (HIx 1)} {α : Type} {k : Acc F → Tp F i α} {Q : α → sProp 𝕄} :
    iprop(Transfers.MayWaits (thr d i) (none : HIx 1) O ∗ Busy d i P B q b c ∗ Owing d i O W)
      ⊢ iprop((iprop(Idle d i P B q b ∗ Owing d i O W) -∗ wp frame (wpE (defs₀ (F := F)) 𝒱₀ (thr d i) none) Set.univ (k (accAt P B j0 (125 * (c.val + 1)))) Q)
          -∗ wp frame (wpE (defs₀ (F := F)) 𝒱₀ (thr d i) none) Set.univ (stage i b c (accAt P B j0 (125 * c.val)) >>= k) Q) := by
  unfold Busy stage
  simp only [Prog.lift, Prog.bind_op, Prog.bind_ret, Prog.pure_eq_ret]
  iintro ⟨#Hmw, ⟨HcP, HcB⟩, HO⟩ Hk
  iapply (wp_copied d i (srcP i c) (bufP b) (semP b).sem (q b) P) $$ [HcP HO]
  · isplitr; · iexact Hmw
    isplitl [HcP] <;> iassumption
  iintro ⟨Hp, HP, HsP, HO⟩
  iapply (wp_copied d i (srcB i c) (bufB b) (semB b).sem (q b) B) $$ [HcB HO]
  · isplitr; · iexact Hmw
    isplitl [HcB] <;> iassumption
  iintro ⟨Hb, HB, HsB, HO⟩
  rw [wp_bind]
  ihave Hw := (wp_scan d i P B b c j0 hj) $$ [Hp Hb]
  · unfold Full
    isplitl [Hp] <;> iassumption
  iapply (wp_wand frame _ _) $$ Hw
  iintro %a ⟨%ha, Hfull⟩
  subst ha
  iapply Hk
  unfold Full Idle
  icases Hfull with ⟨⟨%f, Hp⟩, %g, Hb⟩
  isplitr [HO]
  · isplitl [Hp]; · iexists _; iexact Hp
    isplitl [Hb]; · iexists _; iexact Hb
    isplitl [HP]; · iexact HP
    isplitl [HB]; · iexact HB
    isplitl [HsP] <;> iassumption
  · iexact HO

/-- From chunk `n` on, chunks `n` and `n + 1` under way: every column scanned, nothing under way. -/
theorem wp_run (j0 : ℕ) (hj : j0 = 3125 * (2 * (i 1).val + (i 0).val)) {O : CellTallies nD τ sig (HIx 1)} {W : Waits sig (HIx 1)}
    {α : Type} {k : Acc F → Tp F i α} {Q : α → sProp 𝕄} :
    ∀ (n c : ℕ) (b : Bool) (h : c + n + 2 = 25),
    iprop(Transfers.MayWaits (thr d i) (none : HIx 1) O ∗ Busy d i P B q b ⟨c, by omega⟩ ∗ Busy d i P B q (!b) ⟨c + 1, by omega⟩ ∗ Owing d i O W)
      ⊢ iprop((iprop(Idle d i P B q false ∗ Idle d i P B q true ∗ Owing d i O W)
            -∗ wp frame (wpE (defs₀ (F := F)) 𝒱₀ (thr d i) none) Set.univ (k (accAt P B j0 3125)) Q)
          -∗ wp frame (wpE (defs₀ (F := F)) 𝒱₀ (thr d i) none) Set.univ (run i n c b h (accAt P B j0 (125 * c)) >>= k) Q)
  | 0, c, b, h => by
    obtain rfl : c = 23 := by omega
    have h0 : 23 < 25 := by omega
    have h1 : 24 < 25 := by omega
    unfold run
    rw [Prog.bind_assoc]
    iintro ⟨#Hmw, H0, H1, HO⟩ Hk
    iapply (wp_stage d i P B q b ⟨23, h0⟩ j0 hj) $$ [H0 HO]
    · isplitr; · iexact Hmw
      isplitl [H0] <;> iassumption
    iintro ⟨H0, HO⟩
    iapply (wp_stage d i P B q (!b) ⟨24, h1⟩ j0 hj) $$ [H1 HO]
    · isplitr; · iexact Hmw
      isplitl [H1] <;> iassumption
    iintro ⟨H1, HO⟩
    iapply Hk
    cases b
    · isplitl [H0]; · iexact H0
      isplitl [H1]; · iexact H1
      iexact HO
    · isplitl [H1]; · iexact H1
      isplitl [H0]; · iexact H0
      iexact HO
  | n + 1, c, b, h => by
    have h0 : c < 25 := by omega
    have h1 : c + 2 < 25 := by omega
    have h2 : c + 1 + n + 2 = 25 := by omega
    unfold run
    rw [Prog.bind_assoc]
    iintro ⟨#Hmw, H0, H1, HO⟩ Hk
    iapply (wp_stage d i P B q b ⟨c, h0⟩ j0 hj) $$ [H0 HO]
    · isplitr; · iexact Hmw
      isplitl [H0] <;> iassumption
    iintro ⟨H0, HO⟩
    rw [Prog.bind_assoc]
    iapply (wp_start d i P B q b ⟨c + 2, h1⟩) $$ H0
    iintro H0
    iapply (wp_run j0 hj n (c + 1) (!b) h2) $$ [H0 H1 HO]
    · isplitr; · iexact Hmw
      isplitl [H1]; · iexact H1
      rw [Bool.not_not]
      isplitl [H0] <;> iassumption
    iexact Hk

end Cert.Proof.Tile
-- ==== Proof.TileOut.lean ====
/-
  What one subcore's task leaves: the carry stored in the result scratches, and copied to the subcore's row of each result.
-/
module

public import proofs.«01_k».proof.Proof.TileRun

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (i : grid0.Coords)
variable (P : S100000x128.Idx → F .f32) (B : S100000x16.Idx → F .f32)

/-- Row `r` of the results of the shard that begins at column `j0`: the maximum, its column, and the runner-up. -/
def rowV (j0 r : ℕ) : F .f32 := if r < 16 then (hFold (colP P r) (colB B r) j0 3125).1 else (lFold (colP P r) j0 3125).1
def rowI (j0 r : ℕ) : BitVec 32 := if r < 16 then (hFold (colP P r) (colB B r) j0 3125).2 else (lFold (colP P r) j0 3125).2.1
def rowM (j0 r : ℕ) : F .f32 := if r < 16 then ninf else (lFold (colP P r) j0 3125).2.2

variable (ov : Memref sig .scVector .vmem S128 .f32) (oi : Memref sig .scVector .vmem S128 .i32) (om : Memref sig .scVector .vmem S128 .f32)

/-- The result scratches hold the rows below `o`. -/
def Stored (j0 o : ℕ) : sProp 𝕄 :=
  iprop((∃ f, ⌜∀ x : S128.Idx, (x 0).val < o → ov.view.read (Elt F) f x = rowV P B j0 (x 0).val⌝ ∗ ov.view.loc (thr d i) ↦{fullShare} f)
    ∗ (∃ f, ⌜∀ x : S128.Idx, (x 0).val < o → oi.view.read (Elt F) f x = rowI P B j0 (x 0).val⌝ ∗ oi.view.loc (thr d i) ↦{fullShare} f)
    ∗ ∃ f, ⌜∀ x : S128.Idx, (x 0).val < o → om.view.read (Elt F) f x = rowM P j0 (x 0).val⌝ ∗ om.view.loc (thr d i) ↦{fullShare} f)

omit [FloatOps F] in
/-- A store of sixteen at `o` extends what the buffer holds below `o` to below `o + 16`. -/
theorem read_store {κ : Kind} {sp : Space} {e : EltTy} (v : View sig κ sp S128 e) (f : v.ty.Contents (Elt F)) (o : ℕ)
    (h : ∀ a, (![o] : Fin 1 → ℕ) a + S16.size a ≤ S128.size a) (w : S16.Idx → Elt F e) (g : ℕ → Elt F e)
    (hf : ∀ x : S128.Idx, (x 0).val < o → v.read (Elt F) f x = g (x 0).val) (hw : ∀ l : S16.Idx, w l = g (o + (l 0).val))
    (x : S128.Idx) (hx : (x 0).val < o + 16) :
    v.read (Elt F) (v.writes (Elt F) f [⟨Rect.unit (s := S128) ![o] S16.size h, w⟩]) x = g (x 0).val := by
  show v.read (Elt F) ((v.slice (Rect.unit (s := S128) ![o] S16.size h)).write (Elt F) f w Finset.univ) x = _
  by_cases hlt : (x 0).val < o
  · rw [View.read_slice_write_of_not_mem, hf x hlt]
    intro hm
    obtain ⟨l, -, rfl⟩ := Finset.mem_map.mp hm
    have : o + 1 * (l 0).val < o := hlt
    omega
  · let l : S16.Idx := fun a => ⟨(x 0).val - o, by match a with | 0 => show _ < 16; omega⟩
    have hl : x = (Rect.unit (s := S128) ![o] S16.size h).emb l := by
      funext a; apply Fin.ext
      match a with
      | 0 => show (x 0).val = o + 1 * ((x 0).val - o); omega
    have := View.read_slice_write_emb (v := v) (Val := Elt F) (Rect.unit (s := S128) ![o] S16.size h) f w (Finset.mem_univ l)
    rw [← hl] at this
    rw [this, hw]
    congr 1
    show o + ((x 0).val - o) = (x 0).val; omega

theorem wp_put (j0 o : ℕ) (h : ∀ a, (![o] : Fin 1 → ℕ) a + S16.size a ≤ S128.size a) (x : VF F) (y : VI) (z : VF F)
    (hx : ∀ l : S16.Idx, x l = rowV P B j0 (o + (l 0).val)) (hy : ∀ l : S16.Idx, y l = rowI P B j0 (o + (l 0).val))
    (hz : ∀ l : S16.Idx, z l = rowM P j0 (o + (l 0).val)) {α : Type} {k : PUnit → Tp F i α} {Q : α → sProp 𝕄} :
    Stored d i P B ov oi om j0 o
      ⊢ iprop((Stored d i P B ov oi om j0 (o + 16) -∗ wp frame (wpE (defs₀ (F := F)) 𝒱₀ (thr d i) none) Set.univ (k ⟨⟩) Q)
          -∗ wp frame (wpE (defs₀ (F := F)) 𝒱₀ (thr d i) none) Set.univ (put i ov oi om o h x y z >>= k) Q) := by
  unfold Stored put
  simp only [Prog.lift, Prog.bind_op, Prog.bind_ret, Prog.pure_eq_ret]
  iintro ⟨⟨%fV, %hV, HV⟩, ⟨%fI, %hI, HI⟩, %fM, %hM, HM⟩ Hk
  sl_exec
  iapply Hk
  isplitl [HV]
  · iexists _; isplitr; · ipureintro; exact read_store ov.view fV o h x _ hV hx
    iexact HV
  isplitl [HI]
  · iexists _; isplitr; · ipureintro; exact read_store oi.view fI o h y _ hI hy
    iexact HI
  · iexists _; isplitr; · ipureintro; exact read_store om.view fM o h z _ hM hz
    iexact HM

/-- What the task begins from and ends with besides its tables and slots: the result scratches, their semaphores, and its
    rows of the results. -/
def Rows (f : S32x128.Idx → F .f32) (g : S32x128.Idx → BitVec 32) (h : S32x128.Idx → F .f32) : sProp 𝕄 :=
  iprop(((rowOf i resV).view.loc (thr d i) ↦[(rowOf i resV).view.set]{fullShare} f)
    ∗ ((rowOf i resI).view.loc (thr d i) ↦[(rowOf i resI).view.set]{fullShare} g)
    ∗ ((rowOf i resM).view.loc (thr d i) ↦[(rowOf i resM).view.set]{fullShare} h))

def Scr : sProp 𝕄 :=
  iprop((∃ f, outV.view.loc (thr d i) ↦{fullShare} f) ∗ (∃ f, outI.view.loc (thr d i) ↦{fullShare} f) ∗ (∃ f, outM.view.loc (thr d i) ↦{fullShare} f)
    ∗ semVal (thr d i, .dma cc0_scoped0.sem) 0 ∗ semVal (thr d i, .dma cc0_scoped1.sem) 0 ∗ semVal (thr d i, .dma cc0_scoped2.sem) 0)

theorem light_pack (h : VF F × VI) (l : Fin 7 → VF F × VI × VF F) : ∀ g, light (pack h l) g = l g
  | 0 => rfl | 1 => rfl | 2 => rfl | 3 => rfl | 4 => rfl | 5 => rfl | 6 => rfl

theorem light_accAt (j0 n : ℕ) (g : Fin 7) : light (accAt P B j0 n) g
    = (fun l => (lFold (colP P (16 * (g.val + 1) + (l 0).val)) j0 n).1, fun l => (lFold (colP P (16 * (g.val + 1) + (l 0).val)) j0 n).2.1,
      fun l => (lFold (colP P (16 * (g.val + 1) + (l 0).val)) j0 n).2.2) := by
  unfold accAt; rw [light_pack]

/-- A light group's lanes are its rows. -/
theorem lane_light (j0 o : ℕ) (g : Fin 7) (ho : o = 16 * (g.val + 1)) (l : S16.Idx) :
    (light (accAt P B j0 3125) g).1 l = rowV P B j0 (o + (l 0).val) ∧ (light (accAt P B j0 3125) g).2.1 l = rowI P B j0 (o + (l 0).val)
      ∧ (light (accAt P B j0 3125) g).2.2 l = rowM P j0 (o + (l 0).val) := by
  subst ho
  have h : ¬ 16 * (g.val + 1) + (l 0).val < 16 := by omega
  rw [light_accAt, rowV, rowI, rowM, if_neg h, if_neg h, if_neg h]
  exact ⟨by dsimp only, by dsimp only, by dsimp only⟩

/-- The heavy group's lanes are the first sixteen rows. -/
theorem lane_heavy (j0 : ℕ) (l : S16.Idx) :
    (accAt P B j0 3125).1 l = rowV P B j0 (0 + (l 0).val) ∧ (accAt P B j0 3125).2.1 l = rowI P B j0 (0 + (l 0).val)
      ∧ (negInf : VF F) l = rowM P j0 (0 + (l 0).val) := by
  have h : 0 + (l 0).val < 16 := by have : (l 0).val < 16 := (l 0).isLt; omega
  rw [rowV, rowI, rowM, if_pos h, if_pos h, if_pos h, Nat.zero_add]
  exact ⟨rfl, rfl, rfl⟩

/-- Element `y` of the subcore's row: row `2 s + c` of the array. -/
theorem row_emb {e : EltTy} (r : Memref sig .scVector .hbm S32x128 e) (y : S128.Idx) :
    ∃ x : S32x128.Idx, (rowOf i r).view.emb y = r.view.emb x ∧ (x 0).val = 2 * (i 1).val + (i 0).val ∧ (x 1).val = (y 0).val := by
  have hy : Shape.reshapeEquiv (squeezes_S1x128_S128).numel_eq y = (Fin.cons ⟨0, Nat.one_pos⟩ y : S1x128.Idx) :=
    shapeCast_dropUnit_apply ![128] (fun z : S1x128.Idx => z) (squeezes_S1x128_S128).numel_eq y
  refine ⟨(Rect.unit (s := S32x128) (k0_off228 i) S1x128.size (k0_off228_inb i)).emb
    (Shape.reshapeEquiv (squeezes_S1x128_S128).numel_eq y), rfl, ?_, ?_⟩
  · rw [hy]
    show (k0_off228 i) 0 + 1 * 0 = _
    rw [k0_off228_eq]; rfl
  · rw [hy]
    show (k0_off228 i) 1 + 1 * (y 0).val = _
    rw [k0_off228_eq]
    show 0 + 1 * (y 0).val = _
    omega

/-- The results, whole. -/
def tabV (x : S32x128.Idx) : F .f32 := rowV P B (3125 * (x 0).val) (x 1).val
def tabI (x : S32x128.Idx) : BitVec 32 := rowI P B (3125 * (x 0).val) (x 1).val
def tabM (x : S32x128.Idx) : F .f32 := rowM P (3125 * (x 0).val) (x 1).val

theorem tabV_at {j0 r : ℕ} {x : S32x128.Idx} (h0 : j0 = 3125 * (x 0).val) (h1 : (x 1).val = r) : rowV P B j0 r = tabV P B x := by
  rw [tabV, h0, h1]
theorem tabI_at {j0 r : ℕ} {x : S32x128.Idx} (h0 : j0 = 3125 * (x 0).val) (h1 : (x 1).val = r) : rowI P B j0 r = tabI P B x := by
  rw [tabI, h0, h1]
theorem tabM_at {j0 r : ℕ} {x : S32x128.Idx} (h0 : j0 = 3125 * (x 0).val) (h1 : (x 1).val = r) : rowM P j0 r = tabM P x := by
  rw [tabM, h0, h1]

/-- The subcore's row, just written with what the table holds there, holds the table. -/
theorem row_written {e : EltTy} (r : Memref sig .scVector .hbm S32x128 e) (t : Buf (Elt F) ((rowOf i r).view.loc (thr d i)))
    (t' : S32x128.Idx → Elt F e) (ht : r.view.read (Elt F) t = t')
    (f : Buf (Elt F) ((rowOf i r).view.loc (thr d i))) (w : S128.Idx → Elt F e)
    (h : ∀ (x : S32x128.Idx) (y : S128.Idx), (x 0).val = 2 * (i 1).val + (i 0).val → (x 1).val = (y 0).val → w y = t' x) :
    ((rowOf i r).view.loc (thr d i) ↦[(rowOf i r).view.set]{fullShare} (rowOf i r).view.write (Elt F) f w Finset.univ : sProp 𝕄)
      = (rowOf i r).view.loc (thr d i) ↦[(rowOf i r).view.set]{fullShare} t := by
  refine pointsTo_congr fun z hz => ?_
  obtain ⟨y, -, rfl⟩ := Finset.mem_map.mp hz
  obtain ⟨x, hx, h0, h1⟩ := row_emb i r y
  rw [View.write_emb_of_mem _ _ (Finset.mem_univ y), h x y h0 h1, ← ht]
  rw [View.read_apply, cast_cast, cast_eq]
  exact congrArg t hx.symm

theorem wp_finish (j0 : ℕ) (hj : j0 = 3125 * (2 * (i 1).val + (i 0).val)) {O : CellTallies nD τ sig (HIx 1)} {W : Waits sig (HIx 1)}
    (f : S32x128.Idx → F .f32) (g : S32x128.Idx → BitVec 32) (h : S32x128.Idx → F .f32) :
    iprop(Transfers.MayWaits (thr d i) (none : HIx 1) O ∗ Scr d i ∗ Rows d i f g h ∗ Owing d i O W)
      ⊢ wp frame (wpE (defs₀ (F := F)) 𝒱₀ (thr d i) none) Set.univ (finish i (accAt P B j0 3125))
          fun _ => iprop(Scr d i ∗ Rows d i (tabV P B) (tabI P B) (tabM P) ∗ Owing d i O W) := by
  unfold Scr Rows finish
  iintro ⟨#Hmw, ⟨⟨%fV, HV⟩, ⟨%fI, HI⟩, ⟨%fM, HM⟩, Hs0, Hs1, Hs2⟩, ⟨HrV, HrI, HrM⟩, HO⟩
  ihave HS : Stored d i P B outV outI outM j0 0 $$ [HV HI HM]
  · unfold Stored
    isplitl [HV]
    · iexists fV; isplitr; · ipureintro; exact fun x hx => absurd hx (Nat.not_lt_zero _)
      iexact HV
    isplitl [HI]
    · iexists fI; isplitr; · ipureintro; exact fun x hx => absurd hx (Nat.not_lt_zero _)
      iexact HI
    · iexists fM; isplitr; · ipureintro; exact fun x hx => absurd hx (Nat.not_lt_zero _)
      iexact HM
  iapply (wp_put d i P B outV outI outM j0 0 _ _ _ _ (fun l => (lane_heavy P B j0 l).1) (fun l => (lane_heavy P B j0 l).2.1)
    (fun l => (lane_heavy P B j0 l).2.2)) $$ HS
  iintro HS
  iapply (wp_put d i P B outV outI outM j0 16 _ _ _ _ (fun l => (lane_light P B j0 16 0 rfl l).1) (fun l => (lane_light P B j0 16 0 rfl l).2.1)
    (fun l => (lane_light P B j0 16 0 rfl l).2.2)) $$ HS
  iintro HS
  iapply (wp_put d i P B outV outI outM j0 32 _ _ _ _ (fun l => (lane_light P B j0 32 1 rfl l).1) (fun l => (lane_light P B j0 32 1 rfl l).2.1)
    (fun l => (lane_light P B j0 32 1 rfl l).2.2)) $$ HS
  iintro HS
  iapply (wp_put d i P B outV outI outM j0 48 _ _ _ _ (fun l => (lane_light P B j0 48 2 rfl l).1) (fun l => (lane_light P B j0 48 2 rfl l).2.1)
    (fun l => (lane_light P B j0 48 2 rfl l).2.2)) $$ HS
  iintro HS
  iapply (wp_put d i P B outV outI outM j0 64 _ _ _ _ (fun l => (lane_light P B j0 64 3 rfl l).1) (fun l => (lane_light P B j0 64 3 rfl l).2.1)
    (fun l => (lane_light P B j0 64 3 rfl l).2.2)) $$ HS
  iintro HS
  iapply (wp_put d i P B outV outI outM j0 80 _ _ _ _ (fun l => (lane_light P B j0 80 4 rfl l).1) (fun l => (lane_light P B j0 80 4 rfl l).2.1)
    (fun l => (lane_light P B j0 80 4 rfl l).2.2)) $$ HS
  iintro HS
  iapply (wp_put d i P B outV outI outM j0 96 _ _ _ _ (fun l => (lane_light P B j0 96 5 rfl l).1) (fun l => (lane_light P B j0 96 5 rfl l).2.1)
    (fun l => (lane_light P B j0 96 5 rfl l).2.2)) $$ HS
  iintro HS
  iapply (wp_put d i P B outV outI outM j0 112 _ _ _ _ (fun l => (lane_light P B j0 112 6 rfl l).1) (fun l => (lane_light P B j0 112 6 rfl l).2.1)
    (fun l => (lane_light P B j0 112 6 rfl l).2.2)) $$ HS
  iintro HS
  unfold Stored
  icases HS with ⟨⟨%gV, %hV, HV⟩, ⟨%gI, %hI, HI⟩, %gM, %hM, HM⟩
  simp only [Prog.lift, Prog.bind_op, Prog.bind_ret, Prog.pure_eq_ret]
  iapply (wp_copy d i outV (rowOf i resV) cc0_scoped0.sem fullShare gV (by decide) (Finset.Subset.refl _)) $$ [HV HrV Hs0]
  · isplitl [HV]; · iexact HV
    isplitl [HrV]; · iexists f; iexact HrV
    iexact Hs0
  iintro Hc
  iapply (wp_copied d i outV (rowOf i resV) cc0_scoped0.sem fullShare gV) $$ [Hc HO]
  · isplitr; · iexact Hmw
    isplitl [Hc] <;> iassumption
  iintro ⟨⟨%rV, HrV⟩, HV, Hs0, HO⟩
  iapply (wp_copy d i outI (rowOf i resI) cc0_scoped1.sem fullShare gI (by decide) (Finset.Subset.refl _)) $$ [HI HrI Hs1]
  · isplitl [HI]; · iexact HI
    isplitl [HrI]; · iexists g; iexact HrI
    iexact Hs1
  iintro Hc
  iapply (wp_copied d i outI (rowOf i resI) cc0_scoped1.sem fullShare gI) $$ [Hc HO]
  · isplitr; · iexact Hmw
    isplitl [Hc] <;> iassumption
  iintro ⟨⟨%rI, HrI⟩, HI, Hs1, HO⟩
  iapply (wp_copy d i outM (rowOf i resM) cc0_scoped2.sem fullShare gM (by decide) (Finset.Subset.refl _)) $$ [HM HrM Hs2]
  · isplitl [HM]; · iexact HM
    isplitl [HrM]; · iexists h; iexact HrM
    iexact Hs2
  iintro Hc
  iapply (wp_copied d i outM (rowOf i resM) cc0_scoped2.sem fullShare gM) $$ [Hc HO]
  · isplitr; · iexact Hmw
    isplitl [Hc] <;> iassumption
  iintro ⟨⟨%rM, HrM⟩, HM, Hs2, HO⟩
  rw [wp_ret]
  imodintro
  ihave HrV' := (Entails.of_eq (row_written d i resV (tabV P B) _ (View.read_whole _ _) rV _ (fun x y h0 h1 =>
    (hV y (y 0).isLt).trans (tabV_at P B (by rw [hj, h0]) h1)))) $$ HrV
  ihave HrI' := (Entails.of_eq (row_written d i resI (tabI P B) _ (View.read_whole _ _) rI _ (fun x y h0 h1 =>
    (hI y (y 0).isLt).trans (tabI_at P B (by rw [hj, h0]) h1)))) $$ HrI
  ihave HrM' := (Entails.of_eq (row_written d i resM (tabM P) _ (View.read_whole _ _) rM _ (fun x y h0 h1 =>
    (hM y (y 0).isLt).trans (tabM_at P (by rw [hj, h0]) h1)))) $$ HrM
  isplitl [HV HI HM Hs0 Hs1 Hs2]
  · isplitl [HV]; · iexists _; iexact HV
    isplitl [HI]; · iexists _; iexact HI
    isplitl [HM]; · iexists _; iexact HM
    isplitl [Hs0]; · iexact Hs0
    isplitl [Hs1] <;> iassumption
  isplitr [HO]
  · isplitl [HrV']; · iexact HrV'
    isplitl [HrI'] <;> iassumption
  · iexact HO

/-- The whole of one subcore's task: the two tables are read, the rows it writes are those of the tables of results. -/
theorem wp_tile (q : Bool → PosShare TreeShare) {O : CellTallies nD τ sig (HIx 1)} {W : Waits sig (HIx 1)}
    (f : S32x128.Idx → F .f32) (g : S32x128.Idx → BitVec 32) (h : S32x128.Idx → F .f32) :
    iprop(Transfers.MayWaits (thr d i) (none : HIx 1) O ∗ Idle d i P B q false ∗ Idle d i P B q true ∗ Scr d i ∗ Rows d i f g h ∗ Owing d i O W)
      ⊢ wp frame (wpE (defs₀ (F := F)) 𝒱₀ (thr d i) none) Set.univ (tile i)
          fun _ => iprop(Idle d i P B q false ∗ Idle d i P B q true ∗ Scr d i ∗ Rows d i (tabV P B) (tabI P B) (tabM P) ∗ Owing d i O W) := by
  unfold tile
  iintro ⟨#Hmw, H0, H1, HS, HR, HO⟩
  iapply (wp_start d i P B q false 0) $$ H0
  iintro H0
  iapply (wp_start d i P B q true 1) $$ H1
  iintro H1
  rw [← accAt_zero P B (3125 * (2 * (i 1).val + (i 0).val))]
  iapply (wp_run d i P B q _ rfl 23 0 false rfl) $$ [H0 H1 HO]
  · isplitr; · iexact Hmw
    isplitl [H0]; · iexact H0
    isplitl [H1]; · iexact H1
    iexact HO
  iintro ⟨H0, H1, HO⟩
  iapply (wp_wand frame _ _) $$ [HS HR HO] [H0 H1]
  · iapply (wp_finish d i P B _ rfl f g h)
    isplitr; · iexact Hmw
    isplitl [HS]; · iexact HS
    isplitl [HR]; · iexact HR
    iexact HO
  iintro %_ ⟨HS, HR, HO⟩
  isplitl [H0]; · iexact H0
  isplitl [H1]; · iexact H1
  isplitl [HS]; · iexact HS
  isplitl [HR]; · iexact HR
  iexact HO

end Cert.Proof.Tile
-- ==== Proof.TileEq.lean ====
/-
  The printed body of the vector-subcore kernel is the task of `Tile`: operation by operation, the chunk
  loops by their bodies.
-/
module

public import proofs.«01_k».proof.Proof.Tile

@[expose] public section

noncomputable section

namespace Cert.Proof.Tile

open Cert.KernelIdeal Cert.KernelIdeal.Gen
open Idealize.ShloMosaic Idealize.SL Idealize.SL.Sem

variable {F : FTy → Type} [FloatOps F]

universe u
variable {E : Type → Type u} {α β γ δ σ : Type}

/-- Two programs that begin with one operation agree if they agree on its every answer. -/
theorem op_congr (e : E β) {f g : β → Prog E α} (h : ∀ x, f x = g x) : Prog.op e f = Prog.op e g :=
  congrArg _ (funext h)

/-- Two programs that begin with a loop of the same bounds agree if the loops' bodies do and what follows does. -/
theorem loop_congr {w : ℕ} {l : Scf.Loop w} {hok : l.OK} {init : σ} {body body' : Fin l.trips → σ → Prog E σ}
    {g : σ → Prog E β} {h : β → Prog E α} {g' : σ → Prog E γ} {h' : γ → Prog E α}
    (hb : ∀ k a, body k a = body' k a) (hg : ∀ a, (g a >>= h) = (g' a >>= h')) :
    ((Scf.Loop.for l hok init body >>= g) >>= h) = ((Scf.Loop.for l hok init body' >>= g') >>= h') := by
  obtain rfl : body = body' := funext fun k => funext (hb k)
  rw [Prog.bind_assoc, Prog.bind_assoc]
  exact congrArg _ (funext hg)

/-- The same where nothing follows the second program's continuation. -/
theorem loop_congr_last {w : ℕ} {l : Scf.Loop w} {hok : l.OK} {init : σ} {body body' : Fin l.trips → σ → Prog E σ}
    {g : σ → Prog E β} {h : β → Prog E α} {g' : σ → Prog E α}
    (hb : ∀ k a, body k a = body' k a) (hg : ∀ a, (g a >>= h) = g' a) :
    ((Scf.Loop.for l hok init body >>= g) >>= h) = (Scf.Loop.for l hok init body' >>= g') := by
  obtain rfl : body = body' := funext fun k => funext (hb k)
  rw [Prog.bind_assoc]
  exact congrArg _ (funext hg)

set_option maxRecDepth 65536 in
/-- The printed body, over the launch's arrays, is the task. -/
theorem body_eq (i : grid0.Coords) :
    cc0__sc_body (F := F) i pT (Memref.isWhole_whole _) bT (Memref.isWhole_whole _) resV (Memref.isWhole_whole _)
      resI (Memref.isWhole_whole _) resM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      outV (Memref.isWhole_whole _) outI (Memref.isWhole_whole _) outM (Memref.isWhole_whole _)
      cc0_scratch7 cc0_scratch8 cc0_scratch9 cc0_scratch10 cc0_scoped0 cc0_scoped1 cc0_scoped2 = tile i := by
  iterate 24
    repeat refine op_congr _ fun _ => ?_
    refine loop_congr (fun k ⟨a0, a1, a2, a3, a4, a5, a6, a7, a8, a9, a10, a11, a12, a13, a14, a15, a16, a17, a18, a19, a20, a21, a22⟩ => rfl) ?_
    rintro ⟨a0, a1, a2, a3, a4, a5, a6, a7, a8, a9, a10, a11, a12, a13, a14, a15, a16, a17, a18, a19, a20, a21, a22⟩
  repeat refine op_congr _ fun _ => ?_
  refine loop_congr_last (fun k ⟨a0, a1, a2, a3, a4, a5, a6, a7, a8, a9, a10, a11, a12, a13, a14, a15, a16, a17, a18, a19, a20, a21, a22⟩ => rfl) ?_
  rintro ⟨a0, a1, a2, a3, a4, a5, a6, a7, a8, a9, a10, a11, a12, a13, a14, a15, a16, a17, a18, a19, a20, a21, a22⟩
  repeat refine op_congr _ fun _ => ?_
  rfl

end Cert.Proof.Tile
-- ==== Proof.Launch.lean ====
/-
  The launch of the kernel's thirty-two tasks: what each is handed (a share of the two tables, its rows of the
  results), what it hands back (its rows filled), and how the whole arrays are dealt among the tasks and gathered again.
-/
module

public import proofs.«01_k».proof.Proof.TileOut
public import proofs.«01_k».proof.Proof.TileEq
public import Idealize.ShloMosaic.Lib.SparseCore.Quiescent
public import Idealize.ShloMosaic.Lib.StableHlo.Run
public import Idealize.ShloMosaic.Lib.StableHlo.RunRead
public import Idealize.ShloMosaic.Lib.Tactic

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## What a task is handed and hands back -/

abbrev Core : Type := Fin (grid0.bound 0)
abbrev Sub : Type := Fin (grid0.bound 1)

/-- The task of SparseCore `c`, subcore `s`. -/
def at_ (c : Core) (s : Sub) : grid0.Coords := fun | 0 => c | 1 => s | ⟨_ + 2, h⟩ => absurd h (Nat.not_lt.2 (Nat.le_add_left _ _))

/-- Its shares of a table, one for each slot of its double buffer. -/
def sh (c : Core) (s : Sub) (b : Bool) : PosShare TreeShare :=
  Transfers.dealOf (Transfers.dealOf (Transfers.dealOf fullShare Finset.univ c) Finset.univ s) Finset.univ b

variable (P : Dev nD → S100000x128.Idx → F .f32) (B : Dev nD → S100000x16.Idx → F .f32) (d : Dev nD)

/-- The tables, as they are handed to a task. -/
def Tables (c : Core) (s : Sub) : sProp 𝕄 :=
  iprop(((pT.view.loc (thr d (at_ c s)) ↦{sh c s false} P d) ∗ (pT.view.loc (thr d (at_ c s)) ↦{sh c s true} P d))
    ∗ (bT.view.loc (thr d (at_ c s)) ↦{sh c s false} B d) ∗ (bT.view.loc (thr d (at_ c s)) ↦{sh c s true} B d))

def Go (c : Core) (s : Sub) : sProp 𝕄 := iprop(Tables P B d c s ∗ ∃ f g h, Rows d (at_ c s) f g h)
def Back (c : Core) (s : Sub) : sProp 𝕄 :=
  iprop(Tables P B d c s ∗ Rows d (at_ c s) (tabV (P d) (B d)) (tabI (P d) (B d)) (tabM (P d)))

instance Go_storable (c : Core) (s : Sub) : BI.Storable (upEmb : UEmb _ 𝕄) (Go P B d c s) := by
  unfold Go Tables Rows; infer_instance
instance Back_storable (c : Core) (s : Sub) : BI.Storable (upEmb : UEmb _ 𝕄) (Back P B d c s) := by
  unfold Back Tables Rows; infer_instance

theorem nSub_zero : (K (F := F)).nSub 0 = grid0.bound 1 := rfl
theorem nCore_zero : (K (F := F)).nCore 0 = grid0.bound 0 := rfl

def pay : (K (F := F)).Pay (nD := nD) (Val := Elt F) (Name := ℕ) (U := UU) where
  st := fun q d c => match q with | 0 => bigSep Finset.univ fun s : Fin ((K (F := F)).nSub 0) => Go P B d (Fin.cast nCore_zero c) (Fin.cast nSub_zero s)
  dn := fun q d c => match q with | 0 => bigSep Finset.univ fun s : Fin ((K (F := F)).nSub 0) => Back P B d (Fin.cast nCore_zero c) (Fin.cast nSub_zero s)
  go := fun q d c s => match q with | 0 => Go P B d (Fin.cast nCore_zero c) (Fin.cast nSub_zero s)
  td := fun q d c s => match q with | 0 => Back P B d (Fin.cast nCore_zero c) (Fin.cast nSub_zero s)
  x := fun _ _ => iprop(emp)

instance pay_storable : (pay P B).IsStorable where
  st q d c := by match q with | 0 => unfold pay; infer_instance
  dn q d c := by match q with | 0 => unfold pay; infer_instance
  go q _ _ _ := by match q with | 0 => unfold pay; infer_instance
  td q _ _ _ := by match q with | 0 => unfold pay; infer_instance

/-! ## A task's own buffers and semaphores -/

omit [FloatOps F] in
/-- An embedded family taken out of a conjunction over a set that holds it. -/
theorem bigSep_take {I J : Type} [DecidableEq I] [DecidableEq J] [Fintype J] (s : Finset I) (f : J ↪ I) (h : ∀ j, f j ∈ s) (Φ : I → sProp 𝕄) :
    bigSep s Φ = iprop((bigSep Finset.univ fun j => Φ (f j)) ∗ bigSep (s \ Finset.univ.map f) Φ) := by
  have hs : Finset.univ.map f ⊆ s := fun x hx => by
    obtain ⟨j, -, rfl⟩ := Finset.mem_map.mp hx
    exact h j
  conv_lhs => rw [← Finset.union_sdiff_of_subset hs]
  rw [SparseCore.bigSep_union' Finset.disjoint_sdiff, SparseCore.bigSep_map]

omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

variable (i : grid0.Coords)

/-- The seven semaphores of the task, and its seven scratch buffers. -/
def semAt : Fin 7 ↪ GSem nD τ sig := ⟨fun k => (thr d i, .dma k), fun _ _ e => SemLoc.dma.inj (Prod.mk.inj e).2⟩
def scrRef (k : Fin 7) : Ref sig .scVector := ⟨.vmem, k, rfl⟩
theorem scrRef_inj : ∀ a b : Fin 7, scrRef a = scrRef b → a = b := by decide
def scrAt : Fin 7 ↪ DevRef τ sig := ⟨fun k => (thr d i).2.devRef (scrRef k), fun a b e => scrRef_inj a b (Proc.devRef_injective _ e)⟩

theorem isScoped_sem : ∀ k : Fin 7, (SemLoc.dma k : SemLoc sig).isScoped .scVector = true := by decide

theorem ownSems_eq : (ownSems0 (thr d i) : sProp 𝕄)
    = iprop((semVal (semAt d i 0) 0 ∗ semVal (semAt d i 1) 0 ∗ semVal (semAt d i 2) 0 ∗ semVal (semAt d i 3) 0 ∗ semVal (semAt d i 4) 0
          ∗ semVal (semAt d i 5) 0 ∗ semVal (semAt d i 6) 0)
        ∗ bigSep (ownCells (thr d i) \ Finset.univ.map (semAt d i)) fun g => semVal g 0) := by
  unfold SparseCore.Cfg.ownSems0
  rw [bigSep_take _ (semAt d i) (fun k => mem_ownCells.mpr ⟨rfl, isScoped_sem k⟩), bigSep_seven]

/-- A scratch buffer whole, at some contents. -/
abbrev scrPts (k : Fin 7) : sProp 𝕄 := iprop(∃ f, ((d, scrAt d i k) : Loc nD τ sig) ↦{fullShare} f)

theorem ownBufs_eq : (ownBufs (thr d i) : sProp 𝕄)
    = iprop((scrPts d i 0 ∗ scrPts d i 1 ∗ scrPts d i 2 ∗ scrPts d i 3 ∗ scrPts d i 4 ∗ scrPts d i 5 ∗ scrPts d i 6)
        ∗ bigSep (ownRefs (thr d i).2 \ Finset.univ.map (scrAt d i)) fun b => iprop(∃ f, ((d, b) : Loc nD τ sig) ↦{fullShare} f)) := by
  unfold SparseCore.Cfg.ownBufs
  rw [bigSep_take _ (scrAt d i) (fun k => SparseCore.Cfg.mem_ownRefs_of_owner rfl), bigSep_seven]

/-! ## The task's run -/

/-- The buffers and semaphores a task's run takes, out of its own. -/
theorem tile_own (i : grid0.Coords) (P : S100000x128.Idx → F .f32) (B : S100000x16.Idx → F .f32) (q : Bool → PosShare TreeShare) :
    (iprop(((pT.view.loc (thr d i) ↦{q false} P) ∗ (pT.view.loc (thr d i) ↦{q true} P)) ∗ ((bT.view.loc (thr d i) ↦{q false} B) ∗ (bT.view.loc (thr d i) ↦{q true} B))
        ∗ ownBufs (thr d i) ∗ ownSems0 (thr d i)) : sProp 𝕄)
      = iprop((Idle d i P B q false ∗ Idle d i P B q true ∗ Scr d i)
          ∗ (bigSep (ownRefs (thr d i).2 \ Finset.univ.map (scrAt d i)) fun b => iprop(∃ f, ((d, b) : Loc nD τ sig) ↦{fullShare} f))
          ∗ bigSep (ownCells (thr d i) \ Finset.univ.map (semAt d i)) fun g => semVal g 0) := by
  rw [ownSems_eq, ownBufs_eq]
  unfold Idle Scr
  refine BI.equiv_iff.mp ⟨?_, ?_⟩ <;> change BIBase.Entails (PROP := sProp 𝕄) _ _
  · iintro ⟨⟨Pf, Pt⟩, ⟨Bf, Bt⟩, ⟨⟨b0, b1, b2, b3, b4, b5, b6⟩, bR⟩, ⟨⟨s0, s1, s2, s3, s4, s5, s6⟩, sR⟩⟩
    isplitl [b0 b2 Pf Bf s0 s2 b1 b3 Pt Bt s1 s3 b4 b5 b6 s4 s5 s6]
    · isplitl [b0 b2 Pf Bf s0 s2]
      · isplitl [b0]; · iexact b0
        isplitl [b2]; · iexact b2
        isplitl [Pf]; · iexact Pf
        isplitl [Bf]; · iexact Bf
        isplitl [s0]; · iexact s0
        iexact s2
      isplitl [b1 b3 Pt Bt s1 s3]
      · isplitl [b1]; · iexact b1
        isplitl [b3]; · iexact b3
        isplitl [Pt]; · iexact Pt
        isplitl [Bt]; · iexact Bt
        isplitl [s1]; · iexact s1
        iexact s3
      isplitl [b4]; · iexact b4
      isplitl [b5]; · iexact b5
      isplitl [b6]; · iexact b6
      isplitl [s4]; · iexact s4
      isplitl [s5]; · iexact s5
      iexact s6
    isplitl [bR]; · iexact bR
    iexact sR
  · iintro ⟨⟨⟨b0, b2, Pf, Bf, s0, s2⟩, ⟨b1, b3, Pt, Bt, s1, s3⟩, ⟨b4, b5, b6, s4, s5, s6⟩⟩, bR, sR⟩
    isplitl [Pf Pt]
    · isplitl [Pf]; · iexact Pf
      iexact Pt
    isplitl [Bf Bt]
    · isplitl [Bf]; · iexact Bf
      iexact Bt
    isplitl [b0 b1 b2 b3 b4 b5 b6 bR]
    · isplitl [b0 b1 b2 b3 b4 b5 b6]
      · isplitl [b0]; · iexact b0
        isplitl [b1]; · iexact b1
        isplitl [b2]; · iexact b2
        isplitl [b3]; · iexact b3
        isplitl [b4]; · iexact b4
        isplitl [b5]; · iexact b5
        iexact b6
      iexact bR
    isplitl [s0 s1 s2 s3 s4 s5 s6]
    · isplitl [s0]; · iexact s0
      isplitl [s1]; · iexact s1
      isplitl [s2]; · iexact s2
      isplitl [s3]; · iexact s3
      isplitl [s4]; · iexact s4
      isplitl [s5]; · iexact s5
      iexact s6
    iexact sR

theorem tile_body (c : Core) (s : Sub) (O : CellTallies nD τ sig (HIx 1)) (W : Waits sig (HIx 1)) (hO : ∀ g, O g none = 0) :
    iprop(levAts (K (F := F)).L (K (F := F)).lev ∗ emp ∗ Go P B d c s ∗ scopedBufs (thr d (at_ c s)) ∗ scopedSems0 (thr d (at_ c s))
        ∗ owes (thr d (at_ c s)) O W)
      ⊢ wp frame (wpE (defs₀ (F := F)) 𝒱₀ (thr d (at_ c s)) none) Set.univ
          (cc0__sc_body (F := F) (at_ c s) pT (Memref.isWhole_whole _) bT (Memref.isWhole_whole _) resV (Memref.isWhole_whole _)
            resI (Memref.isWhole_whole _) resM (Memref.isWhole_whole _) (bufP false) (Memref.isWhole_whole _) (bufP true) (Memref.isWhole_whole _)
            (bufB false) (Memref.isWhole_whole _) (bufB true) (Memref.isWhole_whole _) outV (Memref.isWhole_whole _) outI (Memref.isWhole_whole _)
            outM (Memref.isWhole_whole _) cc0_scratch7 cc0_scratch8 cc0_scratch9 cc0_scratch10 cc0_scoped0 cc0_scoped1 cc0_scoped2)
          fun _ => iprop(Back P B d c s ∗ scopedBufs (thr d (at_ c s)) ∗ scopedSems0 (thr d (at_ c s)) ∗ Owing d (at_ c s) O W) := by
  have hP := tile_own d (at_ c s) (P d) (B d) (sh c s)
  rw [show (cc0__sc_body (F := F) (at_ c s) pT (Memref.isWhole_whole _) bT (Memref.isWhole_whole _) resV (Memref.isWhole_whole _)
      resI (Memref.isWhole_whole _) resM (Memref.isWhole_whole _) (bufP false) (Memref.isWhole_whole _) (bufP true) (Memref.isWhole_whole _)
      (bufB false) (Memref.isWhole_whole _) (bufB true) (Memref.isWhole_whole _) outV (Memref.isWhole_whole _) outI (Memref.isWhole_whole _)
      outM (Memref.isWhole_whole _) cc0_scratch7 cc0_scratch8 cc0_scratch9 cc0_scratch10 cc0_scoped0 cc0_scoped1 cc0_scoped2) = tile (at_ c s)
      from body_eq (at_ c s), (K (F := F)).scopedBufs_V facts d, SparseCore.Cfg.scopedSems0_V (Val := Elt F) d]
  unfold Go Back Tables
  iintro ⟨#Hlv, -, ⟨⟨HP, HB⟩, %f, %g, %h, HR⟩, Hb, Hs, HO⟩
  ihave Hmw := ((K (F := F)).mayWaits_none (thr := thr d (at_ c s)) hO) $$ Hlv
  ihave H := (Entails.of_eq hP) $$ [HP HB Hb Hs]
  · isplitl [HP]; · iexact HP
    isplitl [HB]; · iexact HB
    isplitl [Hb] <;> iassumption
  icases H with ⟨⟨H0, H1, HS⟩, HbR, HsR⟩
  iapply (wp_wand frame _ _) $$ [Hmw H0 H1 HS HR HO] [HbR HsR]
  · iapply (wp_tile d (at_ c s) (P d) (B d) (sh c s) f g h)
    isplitl [Hmw]; · iexact Hmw
    isplitl [H0]; · iexact H0
    isplitl [H1]; · iexact H1
    isplitl [HS]; · iexact HS
    isplitl [HR]; · iexact HR
    unfold Owing
    iexists W; isplitr
    · ipureintro; exact fun p hp => .inl hp
    · iexact HO
  iintro %_ ⟨H0, H1, HS, HR, HO⟩
  ihave H := (Entails.of_eq hP.symm) $$ [H0 H1 HS HbR HsR]
  · isplitl [H0 H1 HS]
    · isplitl [H0]; · iexact H0
      isplitl [H1] <;> iassumption
    isplitl [HbR] <;> iassumption
  icases H with ⟨HP, HB, Hb, Hs⟩
  isplitl [HP HB HR]
  · isplitl [HP HB]
    · isplitl [HP] <;> iassumption
    · iexact HR
  isplitl [Hb]; · iexact Hb
  isplitl [Hs]; · iexact Hs
  iexact HO

/-! ## The launch theorem's obligations -/

theorem defs₀_vector (c : Fin τ.nSC) (s : Fin τ.nSub) :
    defs₀ (F := F) (.scVector c s) 0 ()
      = SparseCore.onTile hcore0 hsub0 (fun c s => cc0__sc_body (F := F) (at_ c s) pT (Memref.isWhole_whole _) bT (Memref.isWhole_whole _)
          resV (Memref.isWhole_whole _) resI (Memref.isWhole_whole _) resM (Memref.isWhole_whole _) (bufP false) (Memref.isWhole_whole _)
          (bufP true) (Memref.isWhole_whole _) (bufB false) (Memref.isWhole_whole _) (bufB true) (Memref.isWhole_whole _)
          outV (Memref.isWhole_whole _) outI (Memref.isWhole_whole _) outM (Memref.isWhole_whole _)
          cc0_scratch7 cc0_scratch8 cc0_scratch9 cc0_scratch10 cc0_scoped0 cc0_scoped1 cc0_scoped2) ⟨⟩ c s := rfl

theorem owing_post {A B C : sProp 𝕄} {O : CellTallies nD τ sig (HIx 1)} {W : Waits sig (HIx 1)} {q : Fin 1} :
    iprop(A ∗ B ∗ C ∗ Owing d i O W) ⊢ iprop(A ∗ B ∗ C ∗ ∃ W', ⌜∀ p ∈ W', p ∈ W ∨ p.2 = none ∨ p.2 = some q⌝ ∗ owes (thr d i) O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (pay P B) v₀ 0 := by
  intro d c s O W hO _ _
  simp only [show (pay P B).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body P B d ⟨_, hc.1⟩ ⟨_, hc.2⟩ O W hO).trans (wp_mono frame _ _ fun _ => owing_post d _)

theorem vecSplit : (K (F := F)).VecSplit' (pay P B) 0 := by
  intro d c
  unfold pay
  dsimp only
  iintro H; imodintro
  isplitl [H]; · iexact H
  iintro H; iexact H

/-! ## The arrays, whole, are what the tasks are handed -/

/-- A table whole is the shares of it all the tasks are handed. -/
theorem deal_eq {ℓ : Loc nD τ sig} (f : Buf (Elt F) ℓ) : (ℓ ↦{fullShare} f : sProp 𝕄)
    = bigSep Finset.univ fun c : Core => bigSep Finset.univ fun s : Sub => iprop((ℓ ↦{sh c s false} f) ∗ ℓ ↦{sh c s true} f) := by
  rw [Transfers.pointsTo_deal (Finset.univ : Finset Core) ⟨⟨0, by decide⟩, Finset.mem_univ _⟩ fullShare]
  refine bigSep_congr fun c _ => ?_
  rw [Transfers.pointsTo_deal (Finset.univ : Finset Sub) ⟨⟨0, by decide⟩, Finset.mem_univ _⟩]
  refine bigSep_congr fun s _ => ?_
  rw [Transfers.pointsTo_deal (Finset.univ : Finset Bool) ⟨true, Finset.mem_univ _⟩,
    show (Finset.univ : Finset Bool) = {false, true} by decide, SparseCore.bigSep_insert' (by decide), bigSep_singleton]
  rfl

theorem mem_row {e : EltTy} (L : grid0.Coords) (b : Ref sig .scVector) (hb : b.ty = ⟨S32x128, e⟩) (x : S32x128.Idx) : True := trivial

/-- Row `2 s + c` of a table of results, as a set of its indices. -/
def rowSet (L : grid0.Coords) : Finset S32x128.Idx := Finset.univ.filter fun x => (x 0).val = 2 * (L 1).val + (L 0).val

theorem row_set {e : EltTy} (L : grid0.Coords) (r : Memref sig .scVector .hbm S32x128 e) :
    (rowOf L r).view.set = (rowSet L).map r.view.emb := by
  ext z
  constructor
  · intro hz
    obtain ⟨y, -, rfl⟩ := Finset.mem_map.mp hz
    obtain ⟨x, hx, h0, h1⟩ := row_emb L r y
    exact Finset.mem_map.mpr ⟨x, Finset.mem_filter.mpr ⟨Finset.mem_univ _, h0⟩, hx.symm⟩
  · intro hz
    obtain ⟨x, hx, rfl⟩ := Finset.mem_map.mp hz
    obtain ⟨x', hx', h0, h1⟩ := row_emb L r (fun | 0 => x 1)
    have : x' = x := by
      funext a
      match a with
      | 0 => exact Fin.ext (h0.trans (Finset.mem_filter.mp hx).2.symm)
      | 1 => exact Fin.ext h1
    subst this
    exact Finset.mem_map.mpr ⟨_, Finset.mem_univ _, hx'⟩

theorem rowSet_disjoint (c c' : Core) (s s' : Sub) (h : (c, s) ≠ (c', s')) : Disjoint (rowSet (at_ c s)) (rowSet (at_ c' s')) := by
  refine Finset.disjoint_left.mpr fun x hx hx' => h ?_
  have h1 : 2 * s.val + c.val = 2 * s'.val + c'.val := (Finset.mem_filter.mp hx).2.symm.trans (Finset.mem_filter.mp hx').2
  have h2 : c.val < 2 := c.isLt
  have h3 : c'.val < 2 := c'.isLt
  exact Prod.ext (Fin.ext (by show c.val = c'.val; omega)) (Fin.ext (by show s.val = s'.val; omega))

theorem rowSet_cover (x : S32x128.Idx) : ∃ c s, x ∈ rowSet (at_ c s) := by
  have h : (x 0).val < 32 := (x 0).isLt
  refine ⟨⟨(x 0).val % 2, Nat.mod_lt _ (by decide)⟩, ⟨(x 0).val / 2, by show _ < 16; omega⟩, Finset.mem_filter.mpr ⟨Finset.mem_univ _, ?_⟩⟩
  show (x 0).val = 2 * ((x 0).val / 2) + (x 0).val % 2
  omega

/-- An array whole is its rows. -/
theorem rows_eq {ℓ : Loc nD τ sig} (R : Core → Sub → Finset (Idx ℓ)) (hd : ∀ c c' s s', (c, s) ≠ (c', s') → Disjoint (R c s) (R c' s'))
    (hc : ∀ x, ∃ c s, x ∈ R c s) (f : Buf (Elt F) ℓ) :
    (ℓ ↦{fullShare} f : sProp 𝕄) = bigSep Finset.univ fun c : Core => bigSep Finset.univ fun s : Sub => ℓ ↦[R c s]{fullShare} f := by
  have hu : (Finset.univ ×ˢ Finset.univ : Finset (Core × Sub)).biUnion (fun p => R p.1 p.2) = Finset.univ := by
    refine Finset.eq_univ_of_forall fun x => ?_
    obtain ⟨c, s, h⟩ := hc x
    exact Finset.mem_biUnion.mpr ⟨(c, s), Finset.mem_product.mpr ⟨Finset.mem_univ _, Finset.mem_univ _⟩, h⟩
  rw [← hu, pointsTo_biUnion _ (fun p : Core × Sub => R p.1 p.2) (fun p _ p' _ h => hd _ _ _ _ h), SparseCore.bigSep_product]

abbrev pLoc : Loc nD τ sig := (SparseCore.T d).loc main_v0
abbrev bLoc : Loc nD τ sig := (SparseCore.T d).loc main_v23
abbrev vLoc : Loc nD τ sig := (SparseCore.T d).loc main_v24_0
abbrev iLoc : Loc nD τ sig := (SparseCore.T d).loc main_v24_1
abbrev mLoc : Loc nD τ sig := (SparseCore.T d).loc main_v24_2

/-- The five arrays the call works on, whole. -/
def Whole (p : S100000x128.Idx → F .f32) (b : S100000x16.Idx → F .f32) (f : S32x128.Idx → F .f32) (g : S32x128.Idx → BitVec 32)
    (h : S32x128.Idx → F .f32) : sProp 𝕄 :=
  iprop(((pLoc d ↦{fullShare} p) ∗ (bLoc d ↦{fullShare} b)) ∗ (vLoc d ↦{fullShare} f) ∗ (iLoc d ↦{fullShare} g) ∗ (mLoc d ↦{fullShare} h))

theorem Rows_eq (L : grid0.Coords) (f : S32x128.Idx → F .f32) (g : S32x128.Idx → BitVec 32) (h : S32x128.Idx → F .f32) :
    (Rows d L f g h : sProp 𝕄) = iprop((vLoc d ↦[(rowSet L : Finset (Idx (vLoc d)))]{fullShare} f) ∗ (iLoc d ↦[(rowSet L : Finset (Idx (iLoc d)))]{fullShare} g)
      ∗ (mLoc d ↦[(rowSet L : Finset (Idx (mLoc d)))]{fullShare} h)) := by
  have hm : ∀ b : Finset S32x128.Idx, b.map (Function.Embedding.refl _) = b := fun b => Finset.map_refl
  have hV : (rowOf L resV).view.set = (rowSet L : Finset (Idx (vLoc d))) := (row_set L resV).trans (hm _)
  have hI : (rowOf L resI).view.set = (rowSet L : Finset (Idx (iLoc d))) := (row_set L resI).trans (hm _)
  have hM : (rowOf L resM).view.set = (rowSet L : Finset (Idx (mLoc d))) := (row_set L resM).trans (hm _)
  exact congrArg₂ (fun a b => iprop(a ∗ b)) (congrArg (fun Z => (vLoc d ↦[Z]{fullShare} f : sProp 𝕄)) hV)
    (congrArg₂ (fun a b => iprop(a ∗ b)) (congrArg (fun Z => (iLoc d ↦[Z]{fullShare} g : sProp 𝕄)) hI)
      (congrArg (fun Z => (mLoc d ↦[Z]{fullShare} h : sProp 𝕄)) hM))

theorem whole_eq (f : S32x128.Idx → F .f32) (g : S32x128.Idx → BitVec 32) (h : S32x128.Idx → F .f32) :
    (Whole d (P d) (B d) f g h : sProp 𝕄)
      = bigSep Finset.univ fun c : Core => bigSep Finset.univ fun s : Sub => iprop(Tables P B d c s ∗ Rows d (at_ c s) f g h) := by
  unfold Whole
  rw [deal_eq (ℓ := pLoc d), deal_eq (ℓ := bLoc d), rows_eq (ℓ := vLoc d) (fun c s => rowSet (at_ c s)) (fun c c' s s' => rowSet_disjoint c c' s s') rowSet_cover f,
    rows_eq (ℓ := iLoc d) (fun c s => rowSet (at_ c s)) (fun c c' s s' => rowSet_disjoint c c' s s') rowSet_cover g,
    rows_eq (ℓ := mLoc d) (fun c s => rowSet (at_ c s)) (fun c c' s s' => rowSet_disjoint c c' s s') rowSet_cover h]
  simp only [Rows_eq]
  unfold Tables
  simp only [bigSep_sep']

omit [FloatOps F] in
theorem bigSep_cast {n k : ℕ} (h : n = k) (Φ : Fin k → sProp 𝕄) : (bigSep Finset.univ fun c : Fin n => Φ (Fin.cast h c)) = bigSep Finset.univ Φ := by
  subst h; rfl

theorem st_eq : (bigSep Finset.univ fun c : Fin ((K (F := F)).nCore 0) => (pay P B).st 0 d c)
    = bigSep Finset.univ fun c : Core => bigSep Finset.univ fun s : Sub => Go P B d c s := by
  unfold pay
  dsimp only
  exact (bigSep_cast nCore_zero fun c => bigSep Finset.univ fun s : Fin ((K (F := F)).nSub 0) => Go P B d c (Fin.cast nSub_zero s)).trans
    (bigSep_congr fun c _ => bigSep_cast nSub_zero _)
theorem dn_eq : (bigSep Finset.univ fun c : Fin ((K (F := F)).nCore 0) => (pay P B).dn 0 d c)
    = bigSep Finset.univ fun c : Core => bigSep Finset.univ fun s : Sub => Back P B d c s := by
  unfold pay
  dsimp only
  exact (bigSep_cast nCore_zero fun c => bigSep Finset.univ fun s : Fin ((K (F := F)).nSub 0) => Back P B d c (Fin.cast nSub_zero s)).trans
    (bigSep_congr fun c _ => bigSep_cast nSub_zero _)

/-- What the call takes, -/
theorem st_of (f : S32x128.Idx → F .f32) (g : S32x128.Idx → BitVec 32) (h : S32x128.Idx → F .f32) :
    (Whole d (P d) (B d) f g h : sProp 𝕄) ⊢ bigSep Finset.univ fun c : Fin ((K (F := F)).nCore 0) => (pay P B).st 0 d c := by
  rw [whole_eq, st_eq]
  refine bigSep_mono fun c _ => bigSep_mono fun s _ => ?_
  unfold Go
  show _ ⊢ iprop(Tables P B d c s ∗ ∃ f g h, Rows d (at_ c s) f g h)
  iintro ⟨HT, HR⟩
  isplitl [HT]; · iexact HT
  iexists f; iexists g; iexists h; iexact HR
/-- and what it hands back. -/
theorem dn_to :
    (bigSep Finset.univ fun c : Fin ((K (F := F)).nCore 0) => (pay P B).dn 0 d c)
      = (Whole d (P d) (B d) (tabV (P d) (B d)) (tabI (P d) (B d)) (tabM (P d)) : sProp 𝕄) := by
  rw [whole_eq, dn_eq]
  rfl

/-! ## The launch element: the handshakes' rounds, nothing of the kernel's own -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay P B).x q thr) := by
  unfold u₀
  iintro Hu
  ihave H := (ownU_pair _ _) $$ Hu
  icases H with ⟨HH, -⟩
  imodintro
  isplitl [HH]; · iexact HH
  isplitr; · rw [bigSep_nothing]; iempintro
  unfold pay; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

end Cert.Proof.Tile
-- ==== Proof.Ops.lean ====
/-
  The program around the SparseCore call as lists of host operations: what prepares the call's two tables, what merges
  its three results, and the two branches of the switch at the end.
-/
module

public import proofs.«01_k».proof.Proof.Launch

@[expose] public section

noncomputable section

namespace Cert.Proof.Tile

open Cert.KernelIdeal Cert.KernelIdeal.Gen
open Idealize.ShloMosaic Idealize.ShloMosaic.TcCoe Idealize.ShloMosaic.StableHlo Idealize.SL.Sem

variable {F : FTy → Type} [FloatOps F]

/-- The transposed input and the bonus table of the first sixteen rows. -/
abbrev opsBefore : List (HloOp τ sig (Elt F)) :=
  [ unary main_arg0 main_v0 ((transpose S100000x128 [1, 0] · transposes_S128x100000_S100000x128_1_0) : (⟨S128x100000, .f32⟩ : BufTy).Contents (Elt F) → (⟨S100000x128, .f32⟩ : BufTy).Contents (Elt F)),
    nullary main_v1 (sitofp .f32 (iotaInDim S16 32 0)),
    unary main_v1 main_v2 (broadcastInDim S1x16 ![1] bcast_S16_S1x16_1 : (⟨S16, .f32⟩ : BufTy).Contents (Elt F) → (⟨S1x16, .f32⟩ : BufTy).Contents (Elt F)),
    nullary main_v3 (sitofp .f32 (iotaInDim S100000 32 0)),
    unary main_v3 main_v4 (broadcastInDim S100000x1 ![0] bcast_S100000_S100000x1_0 : (⟨S100000, .f32⟩ : BufTy).Contents (Elt F) → (⟨S100000x1, .f32⟩ : BufTy).Contents (Elt F)),
    nullary main_cst (constant S_ .f32 0x47C35000#32),
    unary main_cst main_v5 (broadcastInDim S1x16 ![] bcast_S_S1x16 : (⟨S_, .f32⟩ : BufTy).Contents (Elt F) → (⟨S1x16, .f32⟩ : BufTy).Contents (Elt F)),
    binary main_v2 main_v5 main_v6 (mulf : (⟨S1x16, .f32⟩ : BufTy).Contents (Elt F) → (⟨S1x16, .f32⟩ : BufTy).Contents (Elt F) → (⟨S1x16, .f32⟩ : BufTy).Contents (Elt F)),
    nullary main_cst_0 (constant S_ .f32 0x3F800000#32),
    unary main_cst_0 main_v7 (broadcastInDim S1x16 ![] bcast_S_S1x16 : (⟨S_, .f32⟩ : BufTy).Contents (Elt F) → (⟨S1x16, .f32⟩ : BufTy).Contents (Elt F)),
    binary main_v7 main_v6 main_v8 (addf : (⟨S1x16, .f32⟩ : BufTy).Contents (Elt F) → (⟨S1x16, .f32⟩ : BufTy).Contents (Elt F) → (⟨S1x16, .f32⟩ : BufTy).Contents (Elt F)),
    unary main_v8 main_v9 (broadcastInDim S100000x16 ![0, 1] bcast_S1x16_S100000x16_0_1 : (⟨S1x16, .f32⟩ : BufTy).Contents (Elt F) → (⟨S100000x16, .f32⟩ : BufTy).Contents (Elt F)),
    unary main_v4 main_v10 (broadcastInDim S100000x16 ![0, 1] bcast_S100000x1_S100000x16_0_1 : (⟨S100000x1, .f32⟩ : BufTy).Contents (Elt F) → (⟨S100000x16, .f32⟩ : BufTy).Contents (Elt F)),
    binary main_v9 main_v10 main_v11 (addf : (⟨S100000x16, .f32⟩ : BufTy).Contents (Elt F) → (⟨S100000x16, .f32⟩ : BufTy).Contents (Elt F) → (⟨S100000x16, .f32⟩ : BufTy).Contents (Elt F)),
    unary main_v2 main_v12 (broadcastInDim S100000x16 ![0, 1] bcast_S1x16_S100000x16_0_1 : (⟨S1x16, .f32⟩ : BufTy).Contents (Elt F) → (⟨S100000x16, .f32⟩ : BufTy).Contents (Elt F)),
    binary main_v12 main_v11 main_v13 (mulf : (⟨S100000x16, .f32⟩ : BufTy).Contents (Elt F) → (⟨S100000x16, .f32⟩ : BufTy).Contents (Elt F) → (⟨S100000x16, .f32⟩ : BufTy).Contents (Elt F)),
    nullary main_cst_1 (constant S_ .f32 0x3F800000#32),
    unary main_cst_1 main_v14 (broadcastInDim S100000x16 ![] bcast_S_S100000x16 : (⟨S_, .f32⟩ : BufTy).Contents (Elt F) → (⟨S100000x16, .f32⟩ : BufTy).Contents (Elt F)),
    binary main_v14 main_v13 main_v15 (addf : (⟨S100000x16, .f32⟩ : BufTy).Contents (Elt F) → (⟨S100000x16, .f32⟩ : BufTy).Contents (Elt F) → (⟨S100000x16, .f32⟩ : BufTy).Contents (Elt F)),
    nullary main_cst_2 (constant S_ .f32 0x3F800000#32),
    unary main_cst_2 main_v16 (broadcastInDim S1x16 ![] bcast_S_S1x16 : (⟨S_, .f32⟩ : BufTy).Contents (Elt F) → (⟨S1x16, .f32⟩ : BufTy).Contents (Elt F)),
    binary main_v2 main_v16 main_v17 (addf : (⟨S1x16, .f32⟩ : BufTy).Contents (Elt F) → (⟨S1x16, .f32⟩ : BufTy).Contents (Elt F) → (⟨S1x16, .f32⟩ : BufTy).Contents (Elt F)),
    unary main_v17 main_v18 (Host.log : (⟨S1x16, .f32⟩ : BufTy).Contents (Elt F) → (⟨S1x16, .f32⟩ : BufTy).Contents (Elt F)),
    unary main_v18 main_v19 (broadcastInDim S100000x16 ![0, 1] bcast_S1x16_S100000x16_0_1 : (⟨S1x16, .f32⟩ : BufTy).Contents (Elt F) → (⟨S100000x16, .f32⟩ : BufTy).Contents (Elt F)),
    binary main_v19 main_v15 main_v20 (Host.divf : (⟨S100000x16, .f32⟩ : BufTy).Contents (Elt F) → (⟨S100000x16, .f32⟩ : BufTy).Contents (Elt F) → (⟨S100000x16, .f32⟩ : BufTy).Contents (Elt F)),
    unary main_v20 main_v21 (Host.sqrt : (⟨S100000x16, .f32⟩ : BufTy).Contents (Elt F) → (⟨S100000x16, .f32⟩ : BufTy).Contents (Elt F)),
    nullary main_cst_3 (constant S_ .f32 0x3F000000#32),
    unary main_cst_3 main_v22 (broadcastInDim S100000x16 ![] bcast_S_S100000x16 : (⟨S_, .f32⟩ : BufTy).Contents (Elt F) → (⟨S100000x16, .f32⟩ : BufTy).Contents (Elt F)),
    binary main_v22 main_v21 main_v23 (mulf : (⟨S100000x16, .f32⟩ : BufTy).Contents (Elt F) → (⟨S100000x16, .f32⟩ : BufTy).Contents (Elt F) → (⟨S100000x16, .f32⟩ : BufTy).Contents (Elt F)) ]

/-- Merging the thirty-two shards: each row's best reward and the first column that reaches it. -/
abbrev opsMerge : List (HloOp τ sig (Elt F)) :=
  [ nullary main_v25 (sitofp .f32 (iotaInDim S128 32 0)),
    unary main_v25 main_v26 (broadcastInDim S1x128 ![1] bcast_S128_S1x128_1 : (⟨S128, .f32⟩ : BufTy).Contents (Elt F) → (⟨S1x128, .f32⟩ : BufTy).Contents (Elt F)),
    nullary main_cst_4 (constant S_ .f32 0x3F800000#32),
    unary main_cst_4 main_v27 (broadcastInDim S1x128 ![] bcast_S_S1x128 : (⟨S_, .f32⟩ : BufTy).Contents (Elt F) → (⟨S1x128, .f32⟩ : BufTy).Contents (Elt F)),
    binary main_v26 main_v27 main_v28 (addf : (⟨S1x128, .f32⟩ : BufTy).Contents (Elt F) → (⟨S1x128, .f32⟩ : BufTy).Contents (Elt F) → (⟨S1x128, .f32⟩ : BufTy).Contents (Elt F)),
    unary main_v28 main_v29 (Host.log : (⟨S1x128, .f32⟩ : BufTy).Contents (Elt F) → (⟨S1x128, .f32⟩ : BufTy).Contents (Elt F)),
    unary main_v24_1 main_v30 (sitofp .f32 : (⟨S32x128, .i32⟩ : BufTy).Contents (Elt F) → (⟨S32x128, .f32⟩ : BufTy).Contents (Elt F)),
    nullary main_cst_5 (constant S_ .f32 0x47C35000#32),
    unary main_cst_5 main_v31 (broadcastInDim S1x128 ![] bcast_S_S1x128 : (⟨S_, .f32⟩ : BufTy).Contents (Elt F) → (⟨S1x128, .f32⟩ : BufTy).Contents (Elt F)),
    binary main_v26 main_v31 main_v32 (mulf : (⟨S1x128, .f32⟩ : BufTy).Contents (Elt F) → (⟨S1x128, .f32⟩ : BufTy).Contents (Elt F) → (⟨S1x128, .f32⟩ : BufTy).Contents (Elt F)),
    nullary main_cst_6 (constant S_ .f32 0x3F800000#32),
    unary main_cst_6 main_v33 (broadcastInDim S1x128 ![] bcast_S_S1x128 : (⟨S_, .f32⟩ : BufTy).Contents (Elt F) → (⟨S1x128, .f32⟩ : BufTy).Contents (Elt F)),
    binary main_v33 main_v32 main_v34 (addf : (⟨S1x128, .f32⟩ : BufTy).Contents (Elt F) → (⟨S1x128, .f32⟩ : BufTy).Contents (Elt F) → (⟨S1x128, .f32⟩ : BufTy).Contents (Elt F)),
    unary main_v34 main_v35 (broadcastInDim S32x128 ![0, 1] bcast_S1x128_S32x128_0_1 : (⟨S1x128, .f32⟩ : BufTy).Contents (Elt F) → (⟨S32x128, .f32⟩ : BufTy).Contents (Elt F)),
    binary main_v35 main_v30 main_v36 (addf : (⟨S32x128, .f32⟩ : BufTy).Contents (Elt F) → (⟨S32x128, .f32⟩ : BufTy).Contents (Elt F) → (⟨S32x128, .f32⟩ : BufTy).Contents (Elt F)),
    unary main_v26 main_v37 (broadcastInDim S32x128 ![0, 1] bcast_S1x128_S32x128_0_1 : (⟨S1x128, .f32⟩ : BufTy).Contents (Elt F) → (⟨S32x128, .f32⟩ : BufTy).Contents (Elt F)),
    binary main_v37 main_v36 main_v38 (mulf : (⟨S32x128, .f32⟩ : BufTy).Contents (Elt F) → (⟨S32x128, .f32⟩ : BufTy).Contents (Elt F) → (⟨S32x128, .f32⟩ : BufTy).Contents (Elt F)),
    nullary main_cst_7 (constant S_ .f32 0x3F800000#32),
    unary main_cst_7 main_v39 (broadcastInDim S32x128 ![] bcast_S_S32x128 : (⟨S_, .f32⟩ : BufTy).Contents (Elt F) → (⟨S32x128, .f32⟩ : BufTy).Contents (Elt F)),
    binary main_v39 main_v38 main_v40 (addf : (⟨S32x128, .f32⟩ : BufTy).Contents (Elt F) → (⟨S32x128, .f32⟩ : BufTy).Contents (Elt F) → (⟨S32x128, .f32⟩ : BufTy).Contents (Elt F)),
    unary main_v29 main_v41 (broadcastInDim S32x128 ![0, 1] bcast_S1x128_S32x128_0_1 : (⟨S1x128, .f32⟩ : BufTy).Contents (Elt F) → (⟨S32x128, .f32⟩ : BufTy).Contents (Elt F)),
    binary main_v41 main_v40 main_v42 (Host.divf : (⟨S32x128, .f32⟩ : BufTy).Contents (Elt F) → (⟨S32x128, .f32⟩ : BufTy).Contents (Elt F) → (⟨S32x128, .f32⟩ : BufTy).Contents (Elt F)),
    unary main_v42 main_v43 (Host.sqrt : (⟨S32x128, .f32⟩ : BufTy).Contents (Elt F) → (⟨S32x128, .f32⟩ : BufTy).Contents (Elt F)),
    nullary main_cst_8 (constant S_ .f32 0x3F000000#32),
    unary main_cst_8 main_v44 (broadcastInDim S32x128 ![] bcast_S_S32x128 : (⟨S_, .f32⟩ : BufTy).Contents (Elt F) → (⟨S32x128, .f32⟩ : BufTy).Contents (Elt F)),
    binary main_v44 main_v43 main_v45 (mulf : (⟨S32x128, .f32⟩ : BufTy).Contents (Elt F) → (⟨S32x128, .f32⟩ : BufTy).Contents (Elt F) → (⟨S32x128, .f32⟩ : BufTy).Contents (Elt F)),
    nullary main_cst_9 (constant S_ .f32 0x41800000#32),
    unary main_cst_9 main_v46 (broadcastInDim S1x128 ![] bcast_S_S1x128 : (⟨S_, .f32⟩ : BufTy).Contents (Elt F) → (⟨S1x128, .f32⟩ : BufTy).Contents (Elt F)),
    binary main_v26 main_v46 main_v47 (cmpf .oge : (⟨S1x128, .f32⟩ : BufTy).Contents (Elt F) → (⟨S1x128, .f32⟩ : BufTy).Contents (Elt F) → (⟨S1x128, .i1⟩ : BufTy).Contents (Elt F)),
    binary main_v24_0 main_v45 main_v48 (addf : (⟨S32x128, .f32⟩ : BufTy).Contents (Elt F) → (⟨S32x128, .f32⟩ : BufTy).Contents (Elt F) → (⟨S32x128, .f32⟩ : BufTy).Contents (Elt F)),
    TRef.unary (.of main_v47 : TRef sig ⟨S1x128, .i1⟩) (.of main_call0_v0 : TRef sig ⟨S32x128, .i1⟩) (broadcastInDim S32x128 ![0, 1] bcast_S1x128_S32x128_0_1),
    TRef.ternary (.of main_call0_v0 : TRef sig ⟨S32x128, .i1⟩) (.of main_v48 : TRef sig ⟨S32x128, .f32⟩) (.of main_v24_0 : TRef sig ⟨S32x128, .f32⟩) (.of main_v49 : TRef sig ⟨S32x128, .f32⟩) select,
    nullary main_cst_10 (constant S_ .f32 0xFF800000#32),
    binary main_v49 main_cst_10 main_v50 ((fun x v => Host.reduce FloatOps.maximumf x v reducesTo_S32x128_S128_d0 h_S_) : (⟨S32x128, .f32⟩ : BufTy).Contents (Elt F) → (⟨S_, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S32x128 ![0, 1] bcast_S1x128_S32x128_0_1 : (⟨S1x128, .f32⟩ : BufTy).Contents (Elt F) → (⟨S32x128, .f32⟩ : BufTy).Contents (Elt F)),
    binary main_v49 main_v52 main_v53 (cmpf .oeq : (⟨S32x128, .f32⟩ : BufTy).Contents (Elt F) → (⟨S32x128, .f32⟩ : BufTy).Contents (Elt F) → (⟨S32x128, .i1⟩ : BufTy).Contents (Elt F)),
    nullary main_c (constantI S_ 32 2147483647#32),
    TRef.unary (.of main_c : TRef sig ⟨S_, .i32⟩) (.of main_call1_v0 : TRef sig ⟨S32x128, .i32⟩) (broadcastInDim S32x128 ![] bcast_S_S32x128),
    TRef.ternary (.of main_v53 : TRef sig ⟨S32x128, .i1⟩) (.of main_v24_1 : TRef sig ⟨S32x128, .i32⟩) (.of main_call1_v0 : TRef sig ⟨S32x128, .i32⟩) (.of main_v54 : TRef sig ⟨S32x128, .i32⟩) select,
    nullary main_c_11 (constantI S_ 32 2147483647#32),
    binary main_v54 main_c_11 main_v55 ((fun x v => Host.reduce IntOp.minsi x v reducesTo_S32x128_S128_d0 h_S_) : (⟨S32x128, .i32⟩ : BufTy).Contents (Elt F) → (⟨S_, .i32⟩ : BufTy).Contents (Elt F) → (⟨S128, .i32⟩ : BufTy).Contents (Elt F)) ]

/-- Whether some row's merge is in doubt: a column passed over could still reach the best reward. -/
abbrev opsDoubt : List (HloOp τ sig (Elt F)) :=
  [ nullary main_v56 (sitofp .f32 (iotaInDim S32 32 0)),
    nullary main_cst_12 (constant S_ .f32 0x45435000#32),
    unary main_cst_12 main_v57 (broadcastInDim S32 ![] bcast_S_S32 : (⟨S_, .f32⟩ : BufTy).Contents (Elt F) → (⟨S32, .f32⟩ : BufTy).Contents (Elt F)),
    binary main_v56 main_v57 main_v58 (mulf : (⟨S32, .f32⟩ : BufTy).Contents (Elt F) → (⟨S32, .f32⟩ : BufTy).Contents (Elt F) → (⟨S32, .f32⟩ : BufTy).Contents (Elt F)),
    unary main_v58 main_v59 (broadcastInDim S32x1 ![0] bcast_S32_S32x1_0 : (⟨S32, .f32⟩ : BufTy).Contents (Elt F) → (⟨S32x1, .f32⟩ : BufTy).Contents (Elt F)),
    nullary main_cst_13 (constant S_ .f32 0x47C35000#32),
    unary main_cst_13 main_v60 (broadcastInDim S1x128 ![] bcast_S_S1x128 : (⟨S_, .f32⟩ : BufTy).Contents (Elt F) → (⟨S1x128, .f32⟩ : BufTy).Contents (Elt F)),
    binary main_v26 main_v60 main_v61 (mulf : (⟨S1x128, .f32⟩ : BufTy).Contents (Elt F) → (⟨S1x128, .f32⟩ : BufTy).Contents (Elt F) → (⟨S1x128, .f32⟩ : BufTy).Contents (Elt F)),
    nullary main_cst_14 (constant S_ .f32 0x3F800000#32),
    unary main_cst_14 main_v62 (broadcastInDim S1x128 ![] bcast_S_S1x128 : (⟨S_, .f32⟩ : BufTy).Contents (Elt F) → (⟨S1x128, .f32⟩ : BufTy).Contents (Elt F)),
    binary main_v62 main_v61 main_v63 (addf : (⟨S1x128, .f32⟩ : BufTy).Contents (Elt F) → (⟨S1x128, .f32⟩ : BufTy).Contents (Elt F) → (⟨S1x128, .f32⟩ : BufTy).Contents (Elt F)),
    unary main_v63 main_v64 (broadcastInDim S32x128 ![0, 1] bcast_S1x128_S32x128_0_1 : (⟨S1x128, .f32⟩ : BufTy).Contents (Elt F) → (⟨S32x128, .f32⟩ : BufTy).Contents (Elt F)),
    unary main_v59 main_v65 (broadcastInDim S32x128 ![0, 1] bcast_S32x1_S32x128_0_1 : (⟨S32x1, .f32⟩ : BufTy).Contents (Elt F) → (⟨S32x128, .f32⟩ : BufTy).Contents (Elt F)),
    binary main_v64 main_v65 main_v66 (addf : (⟨S32x128, .f32⟩ : BufTy).Contents (Elt F) → (⟨S32x128, .f32⟩ : BufTy).Contents (Elt F) → (⟨S32x128, .f32⟩ : BufTy).Contents (Elt F)),
    unary main_v26 main_v67 (broadcastInDim S32x128 ![0, 1] bcast_S1x128_S32x128_0_1 : (⟨S1x128, .f32⟩ : BufTy).Contents (Elt F) → (⟨S32x128, .f32⟩ : BufTy).Contents (Elt F)),
    binary main_v67 main_v66 main_v68 (mulf : (⟨S32x128, .f32⟩ : BufTy).Contents (Elt F) → (⟨S32x128, .f32⟩ : BufTy).Contents (Elt F) → (⟨S32x128, .f32⟩ : BufTy).Contents (Elt F)),
    nullary main_cst_15 (constant S_ .f32 0x3F800000#32),
    unary main_cst_15 main_v69 (broadcastInDim S32x128 ![] bcast_S_S32x128 : (⟨S_, .f32⟩ : BufTy).Contents (Elt F) → (⟨S32x128, .f32⟩ : BufTy).Contents (Elt F)),
    binary main_v69 main_v68 main_v70 (addf : (⟨S32x128, .f32⟩ : BufTy).Contents (Elt F) → (⟨S32x128, .f32⟩ : BufTy).Contents (Elt F) → (⟨S32x128, .f32⟩ : BufTy).Contents (Elt F)),
    unary main_v29 main_v71 (broadcastInDim S32x128 ![0, 1] bcast_S1x128_S32x128_0_1 : (⟨S1x128, .f32⟩ : BufTy).Contents (Elt F) → (⟨S32x128, .f32⟩ : BufTy).Contents (Elt F)),
    binary main_v71 main_v70 main_v72 (Host.divf : (⟨S32x128, .f32⟩ : BufTy).Contents (Elt F) → (⟨S32x128, .f32⟩ : BufTy).Contents (Elt F) → (⟨S32x128, .f32⟩ : BufTy).Contents (Elt F)),
    unary main_v72 main_v73 (Host.sqrt : (⟨S32x128, .f32⟩ : BufTy).Contents (Elt F) → (⟨S32x128, .f32⟩ : BufTy).Contents (Elt F)),
    nullary main_cst_16 (constant S_ .f32 0x3F000000#32),
    unary main_cst_16 main_v74 (broadcastInDim S32x128 ![] bcast_S_S32x128 : (⟨S_, .f32⟩ : BufTy).Contents (Elt F) → (⟨S32x128, .f32⟩ : BufTy).Contents (Elt F)),
    binary main_v74 main_v73 main_v75 (mulf : (⟨S32x128, .f32⟩ : BufTy).Contents (Elt F) → (⟨S32x128, .f32⟩ : BufTy).Contents (Elt F) → (⟨S32x128, .f32⟩ : BufTy).Contents (Elt F)),
    binary main_v24_2 main_v75 main_v76 (addf : (⟨S32x128, .f32⟩ : BufTy).Contents (Elt F) → (⟨S32x128, .f32⟩ : BufTy).Contents (Elt F) → (⟨S32x128, .f32⟩ : BufTy).Contents (Elt F)),
    unary main_v50 main_v77 (broadcastInDim S1x128 ![1] bcast_S128_S1x128_1 : (⟨S128, .f32⟩ : BufTy).Contents (Elt F) → (⟨S1x128, .f32⟩ : BufTy).Contents (Elt F)),
    unary main_v77 main_v78 (broadcastInDim S32x128 ![0, 1] bcast_S1x128_S32x128_0_1 : (⟨S1x128, .f32⟩ : BufTy).Contents (Elt F) → (⟨S32x128, .f32⟩ : BufTy).Contents (Elt F)),
    binary main_v76 main_v78 main_v79 (cmpf .oge : (⟨S32x128, .f32⟩ : BufTy).Contents (Elt F) → (⟨S32x128, .f32⟩ : BufTy).Contents (Elt F) → (⟨S32x128, .i1⟩ : BufTy).Contents (Elt F)),
    unary main_v47 main_v80 (broadcastInDim S32x128 ![0, 1] bcast_S1x128_S32x128_0_1 : (⟨S1x128, .i1⟩ : BufTy).Contents (Elt F) → (⟨S32x128, .i1⟩ : BufTy).Contents (Elt F)),
    binary main_v80 main_v79 main_v81 (andi : (⟨S32x128, .i1⟩ : BufTy).Contents (Elt F) → (⟨S32x128, .i1⟩ : BufTy).Contents (Elt F) → (⟨S32x128, .i1⟩ : BufTy).Contents (Elt F)),
    nullary main_c_17 (constantI S_ 1 0#1),
    binary main_v81 main_c_17 main_v82 ((fun x v => Host.reduce IntOp.ori x v reducesTo_S32x128_S_d0_1 h_S_) : (⟨S32x128, .i1⟩ : BufTy).Contents (Elt F) → (⟨S_, .i1⟩ : BufTy).Contents (Elt F) → (⟨S_, .i1⟩ : BufTy).Contents (Elt F)),
    nullary main_cst_18 (constant S_ .f32 0x00000000#32),
    nullary main_cst_19 (constant S_ .f32 0x00000000#32),
    TRef.ternary (.of main_v82 : TRef sig ⟨S_, .i1⟩) (.of main_cst_18 : TRef sig ⟨S_, .f32⟩) (.of main_cst_19 : TRef sig ⟨S_, .f32⟩) (.of main_v83 : TRef sig ⟨S_, .f32⟩) select,
    unary main_v83 main_v84 (id : (⟨S_, .f32⟩ : BufTy).Contents (Elt F) → (⟨S_, .f32⟩ : BufTy).Contents (Elt F)) ]

/-- The switch's word, from the doubt's bit. -/
abbrev opWord : HloOp τ sig (Elt F) :=
  unary main_v82 main_v85 ((extui 32 · natLt_1_32) : (⟨S_, .i1⟩ : BufTy).Contents (Elt F) → (⟨S_, .i32⟩ : BufTy).Contents (Elt F))

/-- The branch without doubt: keep the merged columns. -/
abbrev opsKeep : List (HloOp τ sig (Elt F)) :=
  [ unary main_v55 main_v86 id ]

/-- The branch with doubt: every reward anew, and each row's argmax. -/
abbrev opsFull : List (HloOp τ sig (Elt F)) :=
  [ nullary main_case0b1_v88 (sitofp .f32 (iotaInDim S128 32 0)),
    unary main_case0b1_v88 main_case0b1_v89 (broadcastInDim S128x1 ![0] bcast_S128_S128x1_0 : (⟨S128, .f32⟩ : BufTy).Contents (Elt F) → (⟨S128x1, .f32⟩ : BufTy).Contents (Elt F)),
    unary main_v84 main_case0b1_v90 (broadcastInDim S128x1 ![] bcast_S_S128x1 : (⟨S_, .f32⟩ : BufTy).Contents (Elt F) → (⟨S128x1, .f32⟩ : BufTy).Contents (Elt F)),
    binary main_case0b1_v89 main_case0b1_v90 main_case0b1_v91 (addf : (⟨S128x1, .f32⟩ : BufTy).Contents (Elt F) → (⟨S128x1, .f32⟩ : BufTy).Contents (Elt F) → (⟨S128x1, .f32⟩ : BufTy).Contents (Elt F)),
    nullary main_case0b1_v92 (sitofp .f32 (iotaInDim S100000 32 0)),
    unary main_case0b1_v92 main_case0b1_v93 (broadcastInDim S1x100000 ![1] bcast_S100000_S1x100000_1 : (⟨S100000, .f32⟩ : BufTy).Contents (Elt F) → (⟨S1x100000, .f32⟩ : BufTy).Contents (Elt F)),
    unary main_v84 main_case0b1_v94 (broadcastInDim S1x100000 ![] bcast_S_S1x100000 : (⟨S_, .f32⟩ : BufTy).Contents (Elt F) → (⟨S1x100000, .f32⟩ : BufTy).Contents (Elt F)),
    binary main_case0b1_v93 main_case0b1_v94 main_case0b1_v95 (addf : (⟨S1x100000, .f32⟩ : BufTy).Contents (Elt F) → (⟨S1x100000, .f32⟩ : BufTy).Contents (Elt F) → (⟨S1x100000, .f32⟩ : BufTy).Contents (Elt F)),
    nullary main_case0b1_cst_20 (constant S_ .f32 0x47C35000#32),
    unary main_case0b1_cst_20 main_case0b1_v96 (broadcastInDim S128x1 ![] bcast_S_S128x1 : (⟨S_, .f32⟩ : BufTy).Contents (Elt F) → (⟨S128x1, .f32⟩ : BufTy).Contents (Elt F)),
    binary main_case0b1_v91 main_case0b1_v96 main_case0b1_v97 (mulf : (⟨S128x1, .f32⟩ : BufTy).Contents (Elt F) → (⟨S128x1, .f32⟩ : BufTy).Contents (Elt F) → (⟨S128x1, .f32⟩ : BufTy).Contents (Elt F)),
    nullary main_case0b1_cst_21 (constant S_ .f32 0x3F800000#32),
    unary main_case0b1_cst_21 main_case0b1_v98 (broadcastInDim S128x1 ![] bcast_S_S128x1 : (⟨S_, .f32⟩ : BufTy).Contents (Elt F) → (⟨S128x1, .f32⟩ : BufTy).Contents (Elt F)),
    binary main_case0b1_v98 main_case0b1_v97 main_case0b1_v99 (addf : (⟨S128x1, .f32⟩ : BufTy).Contents (Elt F) → (⟨S128x1, .f32⟩ : BufTy).Contents (Elt F) → (⟨S128x1, .f32⟩ : BufTy).Contents (Elt F)),
    unary main_case0b1_v99 main_case0b1_v100 (broadcastInDim S128x100000 ![0, 1] bcast_S128x1_S128x100000_0_1 : (⟨S128x1, .f32⟩ : BufTy).Contents (Elt F) → (⟨S128x100000, .f32⟩ : BufTy).Contents (Elt F)),
    unary main_case0b1_v95 main_case0b1_v101 (broadcastInDim S128x100000 ![0, 1] bcast_S1x100000_S128x100000_0_1 : (⟨S1x100000, .f32⟩ : BufTy).Contents (Elt F) → (⟨S128x100000, .f32⟩ : BufTy).Contents (Elt F)),
    binary main_case0b1_v100 main_case0b1_v101 main_case0b1_v102 (addf : (⟨S128x100000, .f32⟩ : BufTy).Contents (Elt F) → (⟨S128x100000, .f32⟩ : BufTy).Contents (Elt F) → (⟨S128x100000, .f32⟩ : BufTy).Contents (Elt F)),
    unary main_case0b1_v91 main_case0b1_v103 (broadcastInDim S128x100000 ![0, 1] bcast_S128x1_S128x100000_0_1 : (⟨S128x1, .f32⟩ : BufTy).Contents (Elt F) → (⟨S128x100000, .f32⟩ : BufTy).Contents (Elt F)),
    binary main_case0b1_v103 main_case0b1_v102 main_case0b1_v104 (mulf : (⟨S128x100000, .f32⟩ : BufTy).Contents (Elt F) → (⟨S128x100000, .f32⟩ : BufTy).Contents (Elt F) → (⟨S128x100000, .f32⟩ : BufTy).Contents (Elt F)),
    nullary main_case0b1_cst_22 (constant S_ .f32 0x3F800000#32),
    unary main_case0b1_cst_22 main_case0b1_v105 (broadcastInDim S128x100000 ![] bcast_S_S128x100000 : (⟨S_, .f32⟩ : BufTy).Contents (Elt F) → (⟨S128x100000, .f32⟩ : BufTy).Contents (Elt F)),
    binary main_case0b1_v105 main_case0b1_v104 main_case0b1_v106 (addf : (⟨S128x100000, .f32⟩ : BufTy).Contents (Elt F) → (⟨S128x100000, .f32⟩ : BufTy).Contents (Elt F) → (⟨S128x100000, .f32⟩ : BufTy).Contents (Elt F)),
    nullary main_case0b1_cst_23 (constant S_ .f32 0x3F800000#32),
    unary main_case0b1_cst_23 main_case0b1_v107 (broadcastInDim S128x1 ![] bcast_S_S128x1 : (⟨S_, .f32⟩ : BufTy).Contents (Elt F) → (⟨S128x1, .f32⟩ : BufTy).Contents (Elt F)),
    binary main_case0b1_v91 main_case0b1_v107 main_case0b1_v108 (addf : (⟨S128x1, .f32⟩ : BufTy).Contents (Elt F) → (⟨S128x1, .f32⟩ : BufTy).Contents (Elt F) → (⟨S128x1, .f32⟩ : BufTy).Contents (Elt F)),
    unary main_case0b1_v108 main_case0b1_v109 (Host.log : (⟨S128x1, .f32⟩ : BufTy).Contents (Elt F) → (⟨S128x1, .f32⟩ : BufTy).Contents (Elt F)),
    unary main_case0b1_v109 main_case0b1_v110 (broadcastInDim S128x100000 ![0, 1] bcast_S128x1_S128x100000_0_1 : (⟨S128x1, .f32⟩ : BufTy).Contents (Elt F) → (⟨S128x100000, .f32⟩ : BufTy).Contents (Elt F)),
    binary main_case0b1_v110 main_case0b1_v106 main_case0b1_v111 (Host.divf : (⟨S128x100000, .f32⟩ : BufTy).Contents (Elt F) → (⟨S128x100000, .f32⟩ : BufTy).Contents (Elt F) → (⟨S128x100000, .f32⟩ : BufTy).Contents (Elt F)),
    unary main_case0b1_v111 main_case0b1_v112 (Host.sqrt : (⟨S128x100000, .f32⟩ : BufTy).Contents (Elt F) → (⟨S128x100000, .f32⟩ : BufTy).Contents (Elt F)),
    nullary main_case0b1_cst_24 (constant S_ .f32 0x3F000000#32),
    unary main_case0b1_cst_24 main_case0b1_v113 (broadcastInDim S128x100000 ![] bcast_S_S128x100000 : (⟨S_, .f32⟩ : BufTy).Contents (Elt F) → (⟨S128x100000, .f32⟩ : BufTy).Contents (Elt F)),
    binary main_case0b1_v113 main_case0b1_v112 main_case0b1_v114 (mulf : (⟨S128x100000, .f32⟩ : BufTy).Contents (Elt F) → (⟨S128x100000, .f32⟩ : BufTy).Contents (Elt F) → (⟨S128x100000, .f32⟩ : BufTy).Contents (Elt F)),
    unary main_v84 main_case0b1_v115 (broadcastInDim S100000x128 ![] bcast_S_S100000x128 : (⟨S_, .f32⟩ : BufTy).Contents (Elt F) → (⟨S100000x128, .f32⟩ : BufTy).Contents (Elt F)),
    binary main_v0 main_case0b1_v115 main_case0b1_v116 (addf : (⟨S100000x128, .f32⟩ : BufTy).Contents (Elt F) → (⟨S100000x128, .f32⟩ : BufTy).Contents (Elt F) → (⟨S100000x128, .f32⟩ : BufTy).Contents (Elt F)),
    unary main_case0b1_v116 main_case0b1_v117 ((transpose S128x100000 [1, 0] · transposes_S100000x128_S128x100000_1_0) : (⟨S100000x128, .f32⟩ : BufTy).Contents (Elt F) → (⟨S128x100000, .f32⟩ : BufTy).Contents (Elt F)),
    binary main_case0b1_v117 main_case0b1_v114 main_case0b1_v118 (addf : (⟨S128x100000, .f32⟩ : BufTy).Contents (Elt F) → (⟨S128x100000, .f32⟩ : BufTy).Contents (Elt F) → (⟨S128x100000, .f32⟩ : BufTy).Contents (Elt F)),
    TRef.nullary (.of main_case0b1_call3_v0 : TRef sig ⟨S128x100000, .i32⟩) (iotaInDim S128x100000 32 1),
    TRef.nullary (.of main_case0b1_call3_cst : TRef sig ⟨S_, .f32⟩) (constant S_ .f32 0xFF800000#32),
    TRef.nullary (.of main_case0b1_call3_c : TRef sig ⟨S_, .i32⟩) (constantI S_ 32 0#32),
    TRef.quaternary (.of main_case0b1_v118 : TRef sig ⟨S128x100000, .f32⟩) (.of main_case0b1_call3_v0 : TRef sig ⟨S128x100000, .i32⟩) (.of main_case0b1_call3_cst : TRef sig ⟨S_, .f32⟩) (.of main_case0b1_call3_c : TRef sig ⟨S_, .i32⟩) (.of main_case0b1_call3_v1_0 : TRef sig ⟨S128, .f32⟩) (fun x y u v j => (Host.argReduce reducer_argmax_f32_i32 x y u v reducesTo_S128x100000_S128_d1 h_S_ j).1),
    TRef.quaternary (.of main_case0b1_v118 : TRef sig ⟨S128x100000, .f32⟩) (.of main_case0b1_call3_v0 : TRef sig ⟨S128x100000, .i32⟩) (.of main_case0b1_call3_cst : TRef sig ⟨S_, .f32⟩) (.of main_case0b1_call3_c : TRef sig ⟨S_, .i32⟩) (.of main_case0b1_v119 : TRef sig ⟨S128, .i32⟩) (fun x y u v j => (Host.argReduce reducer_argmax_f32_i32 x y u v reducesTo_S128x100000_S128_d1 h_S_ j).2),
    unary main_case0b1_v119 main_v86 id ]

/-- The result, as a column. -/
abbrev opLast : HloOp τ sig (Elt F) :=
  unary main_v86 main_v87 (broadcastInDim S128x1 ![0] bcast_S128_S128x1_0 : (⟨S128, .i32⟩ : BufTy).Contents (Elt F) → (⟨S128x1, .i32⟩ : BufTy).Contents (Elt F))

/-- A switch of two branches: the first when the word names it, else the second. -/
theorem case_two (x : BitVec 32) (b : Fin 2 → Prog (TpuEff nD τ sig (Elt F) (SparseCore.Sig (ΛP (F := F)) 1) .tc) PUnit) :
    HostLoop.case 2 x b = if HostLoop.branch x 1 = 0 then b 0 else b 1 := by
  show b (HostLoop.branch x 1) = _
  generalize HostLoop.branch x 1 = k
  match k with
  | 0 => rfl
  | 1 => rfl

/-- The operations of the branch a word names. -/
def opsSwitch (x : BitVec 32) : List (HloOp τ sig (Elt F)) := if HostLoop.branch x 1 = 0 then opsKeep else opsFull

theorem seq_switch (x : BitVec 32) :
    (seq (opsSwitch (F := F) x) : Prog (TpuEff nD τ sig (Elt F) (SparseCore.Sig (ΛP (F := F)) 1) .tc) PUnit)
      = if HostLoop.branch x 1 = 0 then seq opsKeep else seq opsFull := by
  unfold opsSwitch; split <;> rfl

/-- The program on the TensorCore: those lists in order around the call, and the switch. -/
theorem main_eq (d : Dev nD) :
    main (F := F) d = (seq opsBefore >>= fun _ => sc.run d 0 >>= fun _ => seq opsMerge >>= fun _ => seq opsDoubt >>= fun _ =>
      hlo rfl opWord (HostLoop.elt main_v85) >>= fun x =>
        seq (opsSwitch x) >>= fun _ => seq [opLast]) := by
  simp only [seq_switch]
  simp only [main, main_part0, main_part1, seq, fn_where.body, fn_where_0.body, fn_where_1.body, fn_argmax.body, bind_assoc, pure_bind,
    case_two, bind_pure_unit]

end Cert.Proof.Tile

end
-- ==== Proof.Host.lean ====
/-
  The program's run: the host operations before the SparseCore call, the call, and the operations and the switch after
  it. The input is as it was and the result is what the lists of operations leave, read one after the other.
-/
module

public import proofs.«01_k».proof.Proof.Ops

@[expose] public section

noncomputable section

namespace Cert.Proof.Tile

open Cert.KernelIdeal Cert.KernelIdeal.Gen
open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The lists touch only the TensorCore's arrays, and every result is determined -/

theorem forall_of_Forall (ops : List (HloOp τ sig (Elt F))) (h : ops.Forall fun op => op.bufs ⊆ tcRefs τ sig) :
    ∀ op ∈ ops, op.bufs ⊆ tcRefs τ sig := List.forall_iff_forall_mem.mp h

theorem before_sub : ∀ op ∈ (opsBefore : List (HloOp τ sig (Elt F))), op.bufs ⊆ tcRefs τ sig :=
  forall_of_Forall (opsBefore : List (HloOp τ sig (Elt F)))
   ⟨unary_bufs_sub .., nullary_bufs_sub .., unary_bufs_sub .., nullary_bufs_sub .., unary_bufs_sub .., nullary_bufs_sub .., unary_bufs_sub .., binary_bufs_sub ..,
    nullary_bufs_sub .., unary_bufs_sub .., binary_bufs_sub .., unary_bufs_sub .., unary_bufs_sub .., binary_bufs_sub .., unary_bufs_sub .., binary_bufs_sub ..,
    nullary_bufs_sub .., unary_bufs_sub .., binary_bufs_sub .., nullary_bufs_sub .., unary_bufs_sub .., binary_bufs_sub .., unary_bufs_sub .., unary_bufs_sub ..,
    binary_bufs_sub .., unary_bufs_sub .., nullary_bufs_sub .., unary_bufs_sub .., binary_bufs_sub ..⟩

theorem merge_sub : ∀ op ∈ (opsMerge : List (HloOp τ sig (Elt F))), op.bufs ⊆ tcRefs τ sig :=
  forall_of_Forall (opsMerge : List (HloOp τ sig (Elt F)))
   ⟨nullary_bufs_sub .., unary_bufs_sub .., nullary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., unary_bufs_sub .., binary_bufs_sub .., unary_bufs_sub ..,
    binary_bufs_sub .., nullary_bufs_sub .., unary_bufs_sub .., binary_bufs_sub .., unary_bufs_sub .., binary_bufs_sub .., unary_bufs_sub .., nullary_bufs_sub ..,
    unary_bufs_sub .., binary_bufs_sub .., nullary_bufs_sub .., unary_bufs_sub .., binary_bufs_sub .., binary_bufs_sub .., unary_bufs_sub .., ternary_bufs_sub ..,
    nullary_bufs_sub .., binary_bufs_sub .., unary_bufs_sub .., unary_bufs_sub .., binary_bufs_sub .., nullary_bufs_sub .., unary_bufs_sub .., ternary_bufs_sub ..,
    nullary_bufs_sub .., binary_bufs_sub ..⟩

theorem doubt_sub : ∀ op ∈ (opsDoubt : List (HloOp τ sig (Elt F))), op.bufs ⊆ tcRefs τ sig :=
  forall_of_Forall (opsDoubt : List (HloOp τ sig (Elt F)))
   ⟨nullary_bufs_sub .., nullary_bufs_sub .., unary_bufs_sub .., binary_bufs_sub .., unary_bufs_sub .., nullary_bufs_sub .., unary_bufs_sub .., binary_bufs_sub ..,
    nullary_bufs_sub .., unary_bufs_sub .., binary_bufs_sub .., unary_bufs_sub .., unary_bufs_sub .., binary_bufs_sub .., unary_bufs_sub .., binary_bufs_sub ..,
    nullary_bufs_sub .., unary_bufs_sub .., binary_bufs_sub .., unary_bufs_sub .., binary_bufs_sub .., unary_bufs_sub .., nullary_bufs_sub .., unary_bufs_sub ..,
    binary_bufs_sub .., binary_bufs_sub .., unary_bufs_sub .., unary_bufs_sub .., binary_bufs_sub .., unary_bufs_sub .., binary_bufs_sub .., nullary_bufs_sub ..,
    binary_bufs_sub .., nullary_bufs_sub .., nullary_bufs_sub .., ternary_bufs_sub .., unary_bufs_sub ..⟩

theorem full_sub : ∀ op ∈ (opsFull : List (HloOp τ sig (Elt F))), op.bufs ⊆ tcRefs τ sig :=
  forall_of_Forall (opsFull : List (HloOp τ sig (Elt F)))
   ⟨nullary_bufs_sub .., unary_bufs_sub .., unary_bufs_sub .., binary_bufs_sub .., nullary_bufs_sub .., unary_bufs_sub .., unary_bufs_sub .., binary_bufs_sub ..,
    nullary_bufs_sub .., unary_bufs_sub .., binary_bufs_sub .., nullary_bufs_sub .., unary_bufs_sub .., binary_bufs_sub .., unary_bufs_sub .., unary_bufs_sub ..,
    binary_bufs_sub .., unary_bufs_sub .., binary_bufs_sub .., nullary_bufs_sub .., unary_bufs_sub .., binary_bufs_sub .., nullary_bufs_sub .., unary_bufs_sub ..,
    binary_bufs_sub .., unary_bufs_sub .., unary_bufs_sub .., binary_bufs_sub .., unary_bufs_sub .., nullary_bufs_sub .., unary_bufs_sub .., binary_bufs_sub ..,
    unary_bufs_sub .., binary_bufs_sub .., unary_bufs_sub .., binary_bufs_sub .., nullary_bufs_sub .., nullary_bufs_sub .., nullary_bufs_sub .., quaternary_bufs_sub ..,
    quaternary_bufs_sub .., unary_bufs_sub ..⟩

theorem keep_sub : ∀ op ∈ (opsKeep : List (HloOp τ sig (Elt F))), op.bufs ⊆ tcRefs τ sig := by
  intro op h
  cases h with | head => exact unary_bufs_sub .. | tail _ h => exact nomatch h

theorem last_sub : ∀ op ∈ ([opLast] : List (HloOp τ sig (Elt F))), op.bufs ⊆ tcRefs τ sig := by
  intro op h
  cases h with | head => exact unary_bufs_sub .. | tail _ h => exact nomatch h

theorem before_fresh : ∀ op ∈ (opsBefore : List (HloOp τ sig (Elt F))), op.fresh = ∅ := by
  intro _ h; (repeat (cases h with | head => rfl | tail _ h => ?_)); exact nomatch h
theorem merge_fresh : ∀ op ∈ (opsMerge : List (HloOp τ sig (Elt F))), op.fresh = ∅ := by
  intro _ h; (repeat (cases h with | head => rfl | tail _ h => ?_)); exact nomatch h
theorem doubt_fresh : ∀ op ∈ (opsDoubt : List (HloOp τ sig (Elt F))), op.fresh = ∅ := by
  intro _ h; (repeat (cases h with | head => rfl | tail _ h => ?_)); exact nomatch h
theorem full_fresh : ∀ op ∈ (opsFull : List (HloOp τ sig (Elt F))), op.fresh = ∅ := by
  intro _ h; (repeat (cases h with | head => rfl | tail _ h => ?_)); exact nomatch h
theorem keep_fresh : ∀ op ∈ (opsKeep : List (HloOp τ sig (Elt F))), op.fresh = ∅ := by
  intro _ h; (repeat (cases h with | head => rfl | tail _ h => ?_)); exact nomatch h
theorem last_fresh : ∀ op ∈ ([opLast] : List (HloOp τ sig (Elt F))), op.fresh = ∅ := by
  intro _ h; (repeat (cases h with | head => rfl | tail _ h => ?_)); exact nomatch h

theorem switch_sub (x : BitVec 32) : ∀ op ∈ (opsSwitch x : List (HloOp τ sig (Elt F))), op.bufs ⊆ tcRefs τ sig := by
  unfold opsSwitch; split
  · exact keep_sub
  · exact full_sub
theorem switch_fresh (x : BitVec 32) : ∀ op ∈ (opsSwitch x : List (HloOp τ sig (Elt F))), op.fresh = ∅ := by
  unfold opsSwitch; split
  · exact keep_fresh
  · exact full_fresh

/-! ## The contents along the program -/

abbrev p' : DevRef τ sig := Proc.devRef .tc (main_v0 : Ref sig .tc)
abbrev b' : DevRef τ sig := Proc.devRef .tc (main_v23 : Ref sig .tc)
abbrev v' : DevRef τ sig := Proc.devRef .tc (main_v24_0 : Ref sig .tc)
abbrev i' : DevRef τ sig := Proc.devRef .tc (main_v24_1 : Ref sig .tc)
abbrev m' : DevRef τ sig := Proc.devRef .tc (main_v24_2 : Ref sig .tc)
abbrev x' : DevRef τ sig := Proc.devRef .tc (main_arg0 : Ref sig .tc)
abbrev r' : DevRef τ sig := Proc.devRef .tc (main_v87 : Ref sig .tc)

/-- The five arrays the call works on. -/
abbrev five : Finset (DevRef τ sig) := {p', b', v', i', m'}

/-- The contents the call leaves: its three results filled from the two tables. -/
def called (W : Valuation τ sig (Elt F)) : Valuation τ sig (Elt F) :=
  Function.update (Function.update (Function.update W v' (tabV (F := F) (W p') (W b'))) i' (tabI (F := F) (W p') (W b'))) m' (tabM (F := F) (W p'))

/-- The contents at the switch. -/
@[irreducible] def atSwitch (W : Valuation τ sig (Elt F)) : Valuation τ sig (Elt F) :=
  (opWord (F := F)).result (after opsDoubt (after opsMerge (called (after opsBefore W))))

/-- The switch's word. -/
@[irreducible] def word (W : Valuation τ sig (Elt F)) : BitVec 32 := (atSwitch W (Proc.devRef .tc (main_v85 : Ref sig .tc)) : S_.Idx → BitVec 32) HostLoop.idx0

/-- The contents at the end. -/
@[irreducible] def atEnd (W : Valuation τ sig (Elt F)) : Valuation τ sig (Elt F) :=
  after [opLast] (after (opsSwitch (word W)) (atSwitch W))

theorem atSwitch_eq (W : Valuation τ sig (Elt F)) :
    (opWord (F := F)).result (after opsDoubt (after opsMerge (called (after opsBefore W)))) = atSwitch W := by unfold atSwitch; rfl
theorem theWord_eq (W : Valuation τ sig (Elt F)) :
    word W = (atSwitch W (Proc.devRef .tc (main_v85 : Ref sig .tc)) : S_.Idx → BitVec 32) HostLoop.idx0 := by unfold word; rfl
theorem atEnd_eq (W : Valuation τ sig (Elt F)) : atEnd W = after [opLast] (after (opsSwitch (word W)) (atSwitch W)) := by unfold atEnd; rfl

theorem held_five (d : Dev nD) (W : Valuation τ sig (Elt F)) :
    (held (T d) five W : sProp 𝕄) = Whole d (W p') (W b') (W v') (W i') (W m') := by
  unfold held Whole
  rw [SparseCore.bigSep_insert' (by decide), SparseCore.bigSep_insert' (by decide), SparseCore.bigSep_insert' (by decide),
    SparseCore.bigSep_insert' (by decide), bigSep_singleton]
  exact (equiv_iff.mp ⟨BI.sep_assoc, BI.sep_assoc'⟩).symm

theorem five_sub : five ⊆ tcRefs τ sig := by
  intro b hb
  simp only [five, Finset.mem_insert, Finset.mem_singleton] at hb
  rcases hb with rfl | rfl | rfl | rfl | rfl <;> exact devRef_mem_tcRefs _

theorem called_rest (W : Valuation τ sig (Elt F)) : ∀ b ∈ tcRefs τ sig \ five, W b = called W b := by
  intro b hb
  have h := (Finset.mem_sdiff.mp hb).2
  simp only [five, Finset.mem_insert, Finset.mem_singleton, not_or] at h
  unfold called
  rw [Function.update_of_ne h.2.2.2.2, Function.update_of_ne h.2.2.2.1, Function.update_of_ne h.2.2.1]

theorem called_p (W : Valuation τ sig (Elt F)) : called W p' = W p' := by
  unfold called
  rw [Function.update_of_ne (by decide), Function.update_of_ne (by decide), Function.update_of_ne (by decide)]
theorem called_b (W : Valuation τ sig (Elt F)) : called W b' = W b' := by
  unfold called
  rw [Function.update_of_ne (by decide), Function.update_of_ne (by decide), Function.update_of_ne (by decide)]
theorem called_v (W : Valuation τ sig (Elt F)) : called W v' = tabV (F := F) (W p') (W b') := by
  unfold called
  rw [Function.update_of_ne (by decide), Function.update_of_ne (by decide), Function.update_self]
theorem called_i (W : Valuation τ sig (Elt F)) : called W i' = tabI (F := F) (W p') (W b') := by
  unfold called
  rw [Function.update_of_ne (by decide), Function.update_self]
theorem called_m (W : Valuation τ sig (Elt F)) : called W m' = tabM (F := F) (W p') := by
  unfold called
  rw [Function.update_self]

/-- After the call the arrays are held at the contents it leaves. -/
theorem held_called (d : Dev nD) (W : Valuation τ sig (Elt F)) :
    (held (T d) (tcRefs τ sig) (called W) : sProp 𝕄)
      = iprop(Whole d (W p') (W b') (tabV (W p') (W b')) (tabI (W p') (W b')) (tabM (W p')) ∗ held (T d) (tcRefs τ sig \ five) W) := by
  rw [held_sub_split (T d) five_sub, held_five, called_p, called_b, called_v, called_i, called_m, held_congr (T d) (called_rest W)]

/-! ## The program on the TensorCore -/

variable (m : (ℓ : Loc nD τ sig) → Buf (Elt F) ℓ) (ρ : Dev nD → PrngReg)

/-- The launch contents. -/
def V0 (d : Dev nD) : Valuation τ sig (Elt F) := fun b => m (d, b)

/-- The transposed input each task reads. -/
abbrev tP (d : Dev nD) : S100000x128.Idx → F .f32 := after opsBefore (V0 m d) p'
/-- The bonus table each task reads. -/
abbrev tB (d : Dev nD) : S100000x16.Idx → F .f32 := after opsBefore (V0 m d) b'

theorem unscoped_held (d : Dev nD) : (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ from Finset.filter_true_of_mem (by decide), bigSep_map]
  rfl

/-- What is kept to the end: the input as it was, the result. -/
abbrev FIN (d : Dev nD) : sProp 𝕄 :=
  iprop(((SparseCore.T d).loc main_arg0 ↦{fullShare} m ((SparseCore.T d).loc main_arg0)) ∗ ((SparseCore.T d).loc main_v87 ↦{fullShare} atEnd (V0 m d) r'))

theorem called_x (W : Valuation τ sig (Elt F)) : called W x' = W x' :=
  (called_rest W x' (Finset.mem_sdiff.mpr ⟨devRef_mem_tcRefs _, by decide⟩)).symm

/-- The input keeps its contents to the end. -/
theorem atEnd_x (W : Valuation τ sig (Elt F)) : atEnd W x' = W x' := by
  have h : atSwitch W x' = W x' := by
    unfold atSwitch
    rw [(opWord (F := F)).result_of_not_mem _ (b := x') (show x' ∉ ({Proc.devRef .tc (main_v85 : Ref sig .tc)} : Finset (DevRef τ sig)) by decide)]
    show after opsDoubt (after opsMerge (called (after opsBefore W))) (Proc.devRef .tc (main_arg0 : Ref sig .tc)) = _
    after_reads_simp
    rw [called_x]
    show after opsBefore W (Proc.devRef .tc (main_arg0 : Ref sig .tc)) = _
    after_reads_simp
  unfold atEnd opsSwitch
  split
  · show after [opLast] (after opsKeep (atSwitch W)) (Proc.devRef .tc (main_arg0 : Ref sig .tc)) = _
    after_reads_simp
    exact h
  · show after [opLast] (after opsFull (atSwitch W)) (Proc.devRef .tc (main_arg0 : Ref sig .tc)) = _
    after_reads_simp
    exact h

theorem held_ends (d : Dev nD) (W : Valuation τ sig (Elt F)) :
    (held (T d) (tcRefs τ sig) W : sProp 𝕄)
      ⊢ iprop(((SparseCore.T d).loc main_arg0 ↦{fullShare} W x') ∗ ((SparseCore.T d).loc main_v87 ↦{fullShare} W r')) := by
  have hs : ({x', r'} : Finset (DevRef τ sig)) ⊆ tcRefs τ sig := by
    intro b hb
    simp only [Finset.mem_insert, Finset.mem_singleton] at hb
    rcases hb with rfl | rfl <;> exact devRef_mem_tcRefs _
  rw [held_sub_split (T d) hs]
  refine sep_elim_left.trans ?_
  unfold held
  rw [SparseCore.bigSep_insert' (by decide), bigSep_singleton]

/-- Reading the switch's word right after the operation that writes it. -/
theorem elt_word {E : Type → Type} (W : Valuation τ sig (Elt F)) :
    (HostLoop.elt main_v85 rfl ((opWord (F := F)).fn fun b => W b.1) : Prog E (BitVec 32))
      = .ret (((opWord (F := F)).result W (Proc.devRef .tc (main_v85 : Ref sig .tc)) : S_.Idx → BitVec 32) HostLoop.idx0) := by
  show (Prog.ret _ : Prog E (BitVec 32)) = _
  rw [unary_result]
  rfl

set_option backward.isDefEq.respectTransparency.types false in
/-- From the switch to the end: a list of operations, and the last one. -/
theorem tail_run (d : Dev nD) (W : Valuation τ sig (Elt F)) (ops : List (HloOp τ sig (Elt F))) (hsub : ∀ op ∈ ops, op.bufs ⊆ tcRefs τ sig)
    (hfresh : ∀ op ∈ ops, op.fresh = ∅) (W' : Valuation τ sig (Elt F)) (hend : after [opLast] (after ops W) = W') (hx : W' x' = V0 m d x') :
    iprop((K (F := F)).tcSt EH d 1 ∗ boundary (SparseCore.T d) ∗ held (SparseCore.T d) (tcRefs τ sig) W ∗ (K (F := F)).tcSems0 d)
      ⊢ wp frame (wpE ((K (F := F)).defs (D (F := F))) 𝒱 (SparseCore.T d) none) Set.univ (seq ops >>= fun _ => seq [opLast])
          fun _ => iprop((K (F := F)).tcSt EH d 1
            ∗ (((SparseCore.T d).loc main_arg0 ↦{fullShare} m ((SparseCore.T d).loc main_arg0)) ∗ ((SparseCore.T d).loc main_v87 ↦{fullShare} W' r'))
            ∗ boundary (SparseCore.T d) ∗ (K (F := F)).tcSems0 d) := by
  iintro ⟨Hst, Hb, Hheld, Hts⟩
  iapply (wp_seq 𝒱 none Set.univ d (tcRefs τ sig) _ ops hsub hfresh W) $$ [Hb Hheld]
  · isplitl [Hb] <;> iassumption
  iintro ⟨Hb, Hheld⟩
  rw [show (seq [opLast] : Prog (TpuEff nD τ sig (Elt F) (SparseCore.Sig (ΛP (F := F)) 1) .tc) PUnit) = (seq [opLast] >>= fun _ => pure ⟨⟩) from bind_pure_unit.symm]
  iapply (wp_seq 𝒱 none Set.univ d (tcRefs τ sig) _ [opLast] last_sub last_fresh _) $$ [Hb Hheld]
  · isplitl [Hb] <;> iassumption
  iintro ⟨Hb, Hheld⟩
  rw [hend]
  ihave He := (held_ends d W') $$ Hheld
  icases He with ⟨Hx, Hr⟩
  ihave Hx := (Entails.of_eq (congrArg (fun f => ((SparseCore.T d).loc main_arg0 ↦{fullShare} f : sProp 𝕄)) hx)) $$ Hx
  rw [wp_pure]; imodintro
  isplitl [Hst]; · iexact Hst
  isplitl [Hx Hr]
  · isplitl [Hx]; · iexact Hx
    iexact Hr
  isplitl [Hb] <;> iassumption

set_option backward.isDefEq.respectTransparency.types false in
/-- The program on a device's TensorCore, from the launch's contents to the kept input and the result. -/
theorem hmain (κ : GSem nD τ sig → ℕ) (d : Dev nD) :
    iprop((K (F := F)).ctx EH (pay (tP m) (tB m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ opsBefore before_sub before_fresh (V0 m d)) $$ [Hb Hheld]
  · isplitl [Hb] <;> iassumption
  iintro ⟨Hb, Hheld⟩
  ihave Hh := (Entails.of_eq (held_sub_split (T d) five_sub (after opsBefore (V0 m d)))) $$ Hheld
  icases Hh with ⟨H5, Hrest⟩
  ihave H5 := (Entails.of_eq (held_five (F := F) d _)) $$ H5
  rw [wp_bind]
  iapply ((K (F := F)).wp_run (D (F := F)) 𝒱 (EH := EH) (P := pay (tP m) (tB m)) κ d 0) $$ [Hst H5 Hb Hrest Hts]
  isplitr; · iexact Hctx
  isplitl [Hst]; · iexact Hst
  isplitl [H5]
  · iapply (st_of (tP m) (tB m) d _ _ _) $$ H5
  iintro ⟨Hst, Hdn⟩
  ihave H5 := (Entails.of_eq (dn_to (tP m) (tB m) d)) $$ Hdn
  iapply (wp_seq 𝒱 none Set.univ d (tcRefs τ sig) _ opsMerge merge_sub merge_fresh (called (after opsBefore (V0 m d)))) $$ [Hb H5 Hrest]
  · isplitl [Hb]; · iexact Hb
    rw [show (d.tc : Thread nD τ) = SparseCore.T d from rfl, held_called]
    isplitl [H5] <;> iassumption
  iintro ⟨Hb, Hheld⟩
  iapply (wp_seq 𝒱 none Set.univ d (tcRefs τ sig) _ opsDoubt doubt_sub doubt_fresh _) $$ [Hb Hheld]
  · isplitl [Hb] <;> iassumption
  iintro ⟨Hb, Hheld⟩
  rw [wp_bind]
  iapply (wp_hlo_within 𝒱 (d.tc : Thread nD τ) none Set.univ (op := opWord) (S := tcRefs τ sig) (unary_bufs_sub ..)) $$ [Hb Hheld]
  · isplitl [Hb] <;> iassumption
  iintro ⟨Hb, Hheld⟩
  rw [elt_word, show (opWord (F := F)).result (after opsDoubt (after opsMerge (called (after opsBefore (V0 m d))))) = atSwitch (V0 m d) from atSwitch_eq _,
    ← theWord_eq, wp_ret]
  imodintro
  iapply (tail_run m d (atSwitch (V0 m d)) _ (switch_sub _) (switch_fresh _) (atEnd (V0 m d)) (atEnd_eq _).symm (atEnd_x _)) $$ [Hst Hb Hheld Hts]
  isplitl [Hst]; · iexact Hst
  isplitl [Hb]; · iexact Hb
  isplitl [Hheld]; · iexact Hheld
  iexact Hts

/-! ## The run -/

def fq (d : Dev nD) (s' : Phys nD τ sig (Elt F)) : Prop :=
  s'.mem.mem ((SparseCore.T d).loc main_arg0) = m ((SparseCore.T d).loc main_arg0) ∧ s'.mem.mem ((SparseCore.T d).loc main_v87) = atEnd (V0 m d) r'

theorem hfin (d : Dev nD) (s' : Phys nD τ sig (Elt F)) : iprop(FIN m d ∗ SI s') ⊢ (⌜fq m d s'⌝ : sProp 𝕄) := by
  have agree : ∀ (ℓ : Loc nD τ sig) (f : Buf (Elt F) ℓ),
      iprop(SI s' ∗ (ℓ ↦{fullShare} f)) ⊢ (⌜s'.mem.mem ℓ = f⌝ : sProp 𝕄) := fun ℓ f =>
    (SI_pointsTo_agree (st := s') (ℓ := ℓ) (I := Finset.univ) (q := fullShare) (f := f)).trans
      (BI.pure_mono fun h => funext fun i => h i (Finset.mem_univ i))
  iintro ⟨⟨Hx, Hr⟩, HSI⟩
  ihave H := (persistent_entails_right (agree _ _)) $$ [HSI Hx]
  · isplitl [HSI] <;> iassumption
  icases H with ⟨%hx, HSI, -⟩
  ihave H := (agree _ _) $$ [HSI Hr]
  · isplitl [HSI] <;> iassumption
  icases H with %hr
  ipureintro; exact ⟨hx, hr⟩

/-- What the program's run leaves: the input as it was, the result, the semaphores at zero. -/
def QC : PUnit × MemSt nD τ sig (Elt F) → Prop := fun r =>
  (∀ c : Dev nD, r.2.mem ((SparseCore.T c).loc main_arg0) = m ((SparseCore.T c).loc main_arg0) ∧ r.2.mem ((SparseCore.T c).loc main_v87) = atEnd (V0 m c) r')
    ∧ r.2.sem = fun _ => 0

/-- Every run of the program ends, with the input as it was, the result the operations leave, and the semaphores at
    zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay (tP m) (tB m)) (A := ∅) facts v₀
    (fun q hq => match q with | 0 => nomatch hq)
    (fun q _ => match q with | 0 => tileObl (tP m) (tB m))
    (fun q _ => match q with | 0 => SparseCore.Cfg.VecSplit.of_plain (vecSplit (tP m) (tB m)))
    m ρ main (fun _ => iprop(emp)) (FIN m) (u₀ (F := F)) (sep_elim_left.trans (hu₀ (tP m) (tB m))) (hmain m ρ) (fq m) (hfin m) (QC m)
    (fun _ h hz => ⟨h, hz⟩)

end Cert.Proof.Tile

end
-- ==== Proof.Ref.lean ====
/-
  The reference's run: host operations only, one after the other.
-/
module

public import proofs.«01_k».proof.Proof.Gen.ReferenceIdeal
public import Idealize.ShloMosaic.Lib.StableHlo.Run
public import Idealize.ShloMosaic.Lib.StableHlo.RunRead

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations: the bonus of every place, the rewards, each row's argmax, the column. -/
abbrev ops : List (HloOp τ sig (Elt F)) :=
  [ nullary main_v0 (sitofp .f32 (iotaInDim S128 32 0)),
    unary main_v0 main_v1 (broadcastInDim S128x1 ![0] bcast_S128_S128x1_0 : (⟨S128, .f32⟩ : BufTy).Contents (Elt F) → (⟨S128x1, .f32⟩ : BufTy).Contents (Elt F)),
    nullary main_v2 (sitofp .f32 (iotaInDim S100000 32 0)),
    unary main_v2 main_v3 (broadcastInDim S1x100000 ![1] bcast_S100000_S1x100000_1 : (⟨S100000, .f32⟩ : BufTy).Contents (Elt F) → (⟨S1x100000, .f32⟩ : BufTy).Contents (Elt F)),
    nullary main_cst (constant S_ .f32 0x47C35000#32),
    unary main_cst main_v4 (broadcastInDim S128x1 ![] bcast_S_S128x1 : (⟨S_, .f32⟩ : BufTy).Contents (Elt F) → (⟨S128x1, .f32⟩ : BufTy).Contents (Elt F)),
    binary main_v1 main_v4 main_v5 (mulf : (⟨S128x1, .f32⟩ : BufTy).Contents (Elt F) → (⟨S128x1, .f32⟩ : BufTy).Contents (Elt F) → (⟨S128x1, .f32⟩ : BufTy).Contents (Elt F)),
    nullary main_cst_0 (constant S_ .f32 0x3F800000#32),
    unary main_cst_0 main_v6 (broadcastInDim S128x1 ![] bcast_S_S128x1 : (⟨S_, .f32⟩ : BufTy).Contents (Elt F) → (⟨S128x1, .f32⟩ : BufTy).Contents (Elt F)),
    binary main_v6 main_v5 main_v7 (addf : (⟨S128x1, .f32⟩ : BufTy).Contents (Elt F) → (⟨S128x1, .f32⟩ : BufTy).Contents (Elt F) → (⟨S128x1, .f32⟩ : BufTy).Contents (Elt F)),
    unary main_v7 main_v8 (broadcastInDim S128x100000 ![0, 1] bcast_S128x1_S128x100000_0_1 : (⟨S128x1, .f32⟩ : BufTy).Contents (Elt F) → (⟨S128x100000, .f32⟩ : BufTy).Contents (Elt F)),
    unary main_v3 main_v9 (broadcastInDim S128x100000 ![0, 1] bcast_S1x100000_S128x100000_0_1 : (⟨S1x100000, .f32⟩ : BufTy).Contents (Elt F) → (⟨S128x100000, .f32⟩ : BufTy).Contents (Elt F)),
    binary main_v8 main_v9 main_v10 (addf : (⟨S128x100000, .f32⟩ : BufTy).Contents (Elt F) → (⟨S128x100000, .f32⟩ : BufTy).Contents (Elt F) → (⟨S128x100000, .f32⟩ : BufTy).Contents (Elt F)),
    unary main_v1 main_v11 (broadcastInDim S128x100000 ![0, 1] bcast_S128x1_S128x100000_0_1 : (⟨S128x1, .f32⟩ : BufTy).Contents (Elt F) → (⟨S128x100000, .f32⟩ : BufTy).Contents (Elt F)),
    binary main_v11 main_v10 main_v12 (mulf : (⟨S128x100000, .f32⟩ : BufTy).Contents (Elt F) → (⟨S128x100000, .f32⟩ : BufTy).Contents (Elt F) → (⟨S128x100000, .f32⟩ : BufTy).Contents (Elt F)),
    nullary main_cst_1 (constant S_ .f32 0x3F800000#32),
    unary main_cst_1 main_v13 (broadcastInDim S128x100000 ![] bcast_S_S128x100000 : (⟨S_, .f32⟩ : BufTy).Contents (Elt F) → (⟨S128x100000, .f32⟩ : BufTy).Contents (Elt F)),
    binary main_v13 main_v12 main_v14 (addf : (⟨S128x100000, .f32⟩ : BufTy).Contents (Elt F) → (⟨S128x100000, .f32⟩ : BufTy).Contents (Elt F) → (⟨S128x100000, .f32⟩ : BufTy).Contents (Elt F)),
    nullary main_cst_2 (constant S_ .f32 0x3F800000#32),
    unary main_cst_2 main_v15 (broadcastInDim S128x1 ![] bcast_S_S128x1 : (⟨S_, .f32⟩ : BufTy).Contents (Elt F) → (⟨S128x1, .f32⟩ : BufTy).Contents (Elt F)),
    binary main_v1 main_v15 main_v16 (addf : (⟨S128x1, .f32⟩ : BufTy).Contents (Elt F) → (⟨S128x1, .f32⟩ : BufTy).Contents (Elt F) → (⟨S128x1, .f32⟩ : BufTy).Contents (Elt F)),
    unary main_v16 main_v17 (Host.log : (⟨S128x1, .f32⟩ : BufTy).Contents (Elt F) → (⟨S128x1, .f32⟩ : BufTy).Contents (Elt F)),
    unary main_v17 main_v18 (broadcastInDim S128x100000 ![0, 1] bcast_S128x1_S128x100000_0_1 : (⟨S128x1, .f32⟩ : BufTy).Contents (Elt F) → (⟨S128x100000, .f32⟩ : BufTy).Contents (Elt F)),
    binary main_v18 main_v14 main_v19 (Host.divf : (⟨S128x100000, .f32⟩ : BufTy).Contents (Elt F) → (⟨S128x100000, .f32⟩ : BufTy).Contents (Elt F) → (⟨S128x100000, .f32⟩ : BufTy).Contents (Elt F)),
    unary main_v19 main_v20 (Host.sqrt : (⟨S128x100000, .f32⟩ : BufTy).Contents (Elt F) → (⟨S128x100000, .f32⟩ : BufTy).Contents (Elt F)),
    nullary main_cst_3 (constant S_ .f32 0x3F000000#32),
    unary main_cst_3 main_v21 (broadcastInDim S128x100000 ![] bcast_S_S128x100000 : (⟨S_, .f32⟩ : BufTy).Contents (Elt F) → (⟨S128x100000, .f32⟩ : BufTy).Contents (Elt F)),
    binary main_v21 main_v20 main_v22 (mulf : (⟨S128x100000, .f32⟩ : BufTy).Contents (Elt F) → (⟨S128x100000, .f32⟩ : BufTy).Contents (Elt F) → (⟨S128x100000, .f32⟩ : BufTy).Contents (Elt F)),
    binary main_arg0 main_v22 main_v23 (addf : (⟨S128x100000, .f32⟩ : BufTy).Contents (Elt F) → (⟨S128x100000, .f32⟩ : BufTy).Contents (Elt F) → (⟨S128x100000, .f32⟩ : BufTy).Contents (Elt F)),
    TRef.nullary (.of main_call0_v0 : TRef sig ⟨S128x100000, .i32⟩) (iotaInDim S128x100000 32 1),
    TRef.nullary (.of main_call0_cst : TRef sig ⟨S_, .f32⟩) (constant S_ .f32 0xFF800000#32),
    TRef.nullary (.of main_call0_c : TRef sig ⟨S_, .i32⟩) (constantI S_ 32 0#32),
    TRef.quaternary (.of main_v23 : TRef sig ⟨S128x100000, .f32⟩) (.of main_call0_v0 : TRef sig ⟨S128x100000, .i32⟩) (.of main_call0_cst : TRef sig ⟨S_, .f32⟩) (.of main_call0_c : TRef sig ⟨S_, .i32⟩) (.of main_call0_v1_0 : TRef sig ⟨S128, .f32⟩) (fun x y u v j => (Host.argReduce reducer_argmax_f32_i32 x y u v reducesTo_S128x100000_S128_d1 h_S_ j).1),
    TRef.quaternary (.of main_v23 : TRef sig ⟨S128x100000, .f32⟩) (.of main_call0_v0 : TRef sig ⟨S128x100000, .i32⟩) (.of main_call0_cst : TRef sig ⟨S_, .f32⟩) (.of main_call0_c : TRef sig ⟨S_, .i32⟩) (.of main_v24 : TRef sig ⟨S128, .i32⟩) (fun x y u v j => (Host.argReduce reducer_argmax_f32_i32 x y u v reducesTo_S128x100000_S128_d1 h_S_ j).2),
    unary main_v24 main_v25 (broadcastInDim S128x1 ![0] bcast_S128_S128x1_0 : (⟨S128, .i32⟩ : BufTy).Contents (Elt F) → (⟨S128x1, .i32⟩ : BufTy).Contents (Elt F)) ]

theorem main_eq (d : Dev nD) : main (F := F) d = seq ops := by
  simp only [main, seq, fn_argmax.body, bind_assoc, pure_bind]

theorem no_scoped_refs : (Finset.univ.filter fun b : Ref sig .tc => b.isScoped) = ∅ := by decide
theorem no_scoped_sems : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub ..,
    unary_bufs_sub .., binary_bufs_sub .., unary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., unary_bufs_sub .., unary_bufs_sub .., binary_bufs_sub ..,
    unary_bufs_sub .., nullary_bufs_sub .., unary_bufs_sub .., binary_bufs_sub .., binary_bufs_sub .., nullary_bufs_sub .., nullary_bufs_sub .., nullary_bufs_sub ..,
    quaternary_bufs_sub .., quaternary_bufs_sub .., unary_bufs_sub ..⟩

theorem arg_kept (W : Valuation τ sig (Elt F)) :
    after ops W (Proc.devRef .tc (main_arg0 : Ref sig .tc)) = W (Proc.devRef .tc (main_arg0 : Ref sig .tc)) := by
  after_reads_simp

/-- Every run of the reference ends, with every array at what the operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq no_scoped_refs no_scoped_sems defs main (fun _ => ops) main_eq (fun _ => ops_sub) m ρ

end Cert.Proof.Ref

end
-- ==== Proof.Frames.lean ====
/-
  The three frames: each program runs to its end, its input as it was, every semaphore at zero.
-/
module

public import proofs.«01_k».proof.Defs
public import proofs.«01_k».proof.Proof.Gen.Kernel
public import proofs.«01_k».proof.Proof.Host
public import proofs.«01_k».proof.Proof.Ref
public import Idealize.ShloMosaic.Lib.Quiescent

@[expose] public section

noncomputable section

namespace Cert.Proof

open Idealize.ShloMosaic Idealize.SL.Sem

/-- The idealized program's frame, from its run. -/
theorem frame_ideal : Cert.quiescent_KernelIdeal := fun m ρ _ =>
  (θ_run (Cert.KernelIdeal.defs (F := Ideal)) _ _).mono (fun _ h => ⟨fun c => (h.1 c).1, h.2⟩) (Tile.run_main (F := Ideal) m ρ)

/-- The program's frame: its text is the idealized program's, so the same run serves it at the machine's own words. -/
theorem frame_kernel : Cert.quiescent_Kernel := fun m ρ _ =>
  (θ_run (Cert.KernelIdeal.defs (F := Bits)) _ _).mono (fun _ h => ⟨fun c => (h.1 c).1, h.2⟩) (Tile.run_main (F := Bits) m ρ)

/-- The reference's run with its frame and its result. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_v25)
            = StableHlo.after Ref.ops (StableHlo.launchContents m c) (Proc.devRef .tc Cert.ReferenceIdeal.main_v25) :=
  (θ_run (Cert.ReferenceIdeal.defs (F := Ideal)) _ _).mono
    (fun _ h c => ⟨(h c Cert.ReferenceIdeal.main_arg0).trans (Ref.arg_kept _), h c Cert.ReferenceIdeal.main_v25⟩) (Ref.run_main m ρ)

/-- The reference's frame; it has no semaphore. -/
theorem frame_reference : Cert.quiescent_ReferenceIdeal := fun m ρ _ =>
  (θ_run (Cert.ReferenceIdeal.defs (F := Ideal)) _ _).mono
    (fun r h => ⟨fun c => (h c).1, Idealize.ShloMosaic.sem_eq_zero_of_no_sems (by decide) r.2⟩) (reference_run m ρ)

end Cert.Proof

end
-- ==== Proof.Bonus.lean ====
/-
  The bonus of a place over the extended reals: a real number that only falls along a row.
-/
module

public import Idealize.ShloMosaic.PureOps.Ideal.Laws

@[expose] public section

noncomputable section

namespace Cert.Proof

open Idealize.ShloMosaic

/-- The bonus at row number `i` and column number `j`, in the operations of the programs. -/
def bonus (i j : EReal) : EReal :=
  Ideal.ofBits FTy.f32 1056964608#32
    * Ideal.sqrt (Ideal.div (Ideal.log (i + 1)) (1 + i * (1 + i * Ideal.ofBits FTy.f32 1203982336#32 + j)))

/-- A row's or a column's number. -/
abbrev num (k : ℕ) : EReal := ((k : ℝ) : EReal)

theorem half_ideal : Ideal.ofBits FTy.f32 1056964608#32 = ((1 / 2 : ℝ) : EReal) := by
  simp [Ideal.ofBits, Ideal.ieee, -EReal.coe_mul]; norm_num
theorem cols_ideal : Ideal.ofBits FTy.f32 1203982336#32 = ((100000 : ℝ) : EReal) := by
  simp [Ideal.ofBits, Ideal.ieee, -EReal.coe_mul]; norm_num
theorem shard_ideal : Ideal.ofBits FTy.f32 1162039296#32 = ((3125 : ℝ) : EReal) := by
  simp [Ideal.ofBits, Ideal.ieee, -EReal.coe_mul]; norm_num
theorem sixteen_ideal : Ideal.ofBits FTy.f32 1098907648#32 = ((16 : ℝ) : EReal) := by
  simp [Ideal.ofBits, Ideal.ieee, -EReal.coe_mul]; norm_num

/-- The number of a word that holds a small natural number. -/
theorem num_word {k : ℕ} (h : k < 2 ^ 31) : (FloatOps.sitofp (F := Ideal) FTy.f32 (BitVec.ofNat 32 k) : EReal) = num k := by
  show (((BitVec.ofNat 32 k).toInt : ℝ) : EReal) = _
  have : (BitVec.ofNat 32 k).toInt = k := by
    have hn : (BitVec.ofNat 32 k).toNat = k := by rw [BitVec.toNat_ofNat]; omega
    rw [BitVec.toInt_eq_toNat_of_lt (by rw [hn]; omega), hn]
  rw [this]
  simp [num]

/-- The bonus as a real number. -/
theorem bonus_real (i j : ℕ) :
    bonus (num i) (num j) = ((1 / 2 * Real.sqrt (Real.log ((i : ℝ) + 1) * (1 / (1 + (i : ℝ) * (1 + (i : ℝ) * 100000 + (j : ℝ))))) : ℝ) : EReal) := by
  have hi : (0 : ℝ) ≤ (i : ℝ) := Nat.cast_nonneg i
  have hj : (0 : ℝ) ≤ (j : ℝ) := Nat.cast_nonneg j
  have hd : (0 : ℝ) < 1 + (i : ℝ) * (1 + (i : ℝ) * 100000 + (j : ℝ)) := by positivity
  have hl : 0 ≤ Real.log ((i : ℝ) + 1) := Real.log_nonneg (by linarith)
  have e1 : num i + 1 = (((i : ℝ) + 1 : ℝ) : EReal) := by rw [EReal.coe_add, EReal.coe_one]
  have e2 : 1 + num i * (1 + num i * ((100000 : ℝ) : EReal) + num j) = ((1 + (i : ℝ) * (1 + (i : ℝ) * 100000 + (j : ℝ)) : ℝ) : EReal) := by
    simp only [num, EReal.coe_add, EReal.coe_mul, EReal.coe_one]
  unfold bonus
  rw [half_ideal, cols_ideal, e1, e2, Ideal.log_coe, if_neg (by linarith), Ideal.div_coe hd.ne', ← EReal.coe_mul, Ideal.sqrt_coe,
    if_neg (not_lt.mpr (mul_nonneg hl (by positivity))), ← EReal.coe_mul]

/-- Along a row the bonus does not rise. -/
theorem bonus_anti (i : ℕ) {j k : ℕ} (h : j ≤ k) : bonus (num i) (num k) ≤ bonus (num i) (num j) := by
  rw [bonus_real, bonus_real, EReal.coe_le_coe_iff]
  have hi : (0 : ℝ) ≤ (i : ℝ) := Nat.cast_nonneg i
  have hj : (0 : ℝ) ≤ (j : ℝ) := Nat.cast_nonneg j
  have hjk : (j : ℝ) ≤ (k : ℝ) := Nat.cast_le.mpr h
  have hd : (0 : ℝ) < 1 + (i : ℝ) * (1 + (i : ℝ) * 100000 + (j : ℝ)) := by positivity
  have hl : 0 ≤ Real.log ((i : ℝ) + 1) := Real.log_nonneg (by linarith)
  gcongr

end Cert.Proof

end
-- ==== Proof.Reads.lean ====
/-
  What the program's host operations leave, read at an index over the extended reals.
-/
module

public import proofs.«01_k».proof.Proof.Host
public import proofs.«01_k».proof.Proof.Bonus
public import Idealize.ShloMosaic.Lib.StableHlo.ReadAt
public import Idealize.ShloMosaic.Lib.Pointwise.Tactic

@[expose] public section

noncomputable section

namespace Cert.Proof.Tile

open Cert.KernelIdeal Cert.KernelIdeal.Gen
open Idealize.ShloMosaic Idealize.ShloMosaic.TcCoe Idealize.ShloMosaic.StableHlo Idealize.SL.Sem

/-! ## The argmax of the branch with doubt -/

section AnyFloats

variable {F : FTy → Type} [FloatOps F]

/-- A result of the argmax from its four operands. -/
abbrev ArgFn (F : FTy → Type) (α : Type) : Type :=
  (S128x100000.Idx → F .f32) → (S128x100000.Idx → BitVec 32) → (S_.Idx → F .f32) → (S_.Idx → BitVec 32) → S128.Idx → α

/-- The last operations of that branch, with the two results of the argmax as `f` and `g`. -/
abbrev opsArg (f : ArgFn F (F .f32)) (g : ArgFn F (BitVec 32)) : List (HloOp τ sig (Elt F)) :=
  [ TRef.nullary (.of main_case0b1_call3_v0 : TRef sig ⟨S128x100000, .i32⟩) (iotaInDim S128x100000 32 1),
    TRef.nullary (.of main_case0b1_call3_cst : TRef sig ⟨S_, .f32⟩) (constant S_ .f32 0xFF800000#32),
    TRef.nullary (.of main_case0b1_call3_c : TRef sig ⟨S_, .i32⟩) (constantI S_ 32 0#32),
    TRef.quaternary (.of main_case0b1_v118 : TRef sig ⟨S128x100000, .f32⟩) (.of main_case0b1_call3_v0 : TRef sig ⟨S128x100000, .i32⟩) (.of main_case0b1_call3_cst : TRef sig ⟨S_, .f32⟩) (.of main_case0b1_call3_c : TRef sig ⟨S_, .i32⟩) (.of main_case0b1_call3_v1_0 : TRef sig ⟨S128, .f32⟩) f,
    TRef.quaternary (.of main_case0b1_v118 : TRef sig ⟨S128x100000, .f32⟩) (.of main_case0b1_call3_v0 : TRef sig ⟨S128x100000, .i32⟩) (.of main_case0b1_call3_cst : TRef sig ⟨S_, .f32⟩) (.of main_case0b1_call3_c : TRef sig ⟨S_, .i32⟩) (.of main_case0b1_v119 : TRef sig ⟨S128, .i32⟩) g,
    unary main_case0b1_v119 main_v86 (id : (⟨S128, .i32⟩ : BufTy).Contents (Elt F) → (⟨S128, .i32⟩ : BufTy).Contents (Elt F)) ]

theorem arg_read (W : Valuation τ sig (Elt F)) (f : ArgFn F (F .f32)) (g : ArgFn F (BitVec 32)) :
    after (opsArg f g) W (Proc.devRef .tc (main_v86 : Ref sig .tc))
      = g (after (opsArg f g) W (Proc.devRef .tc (main_case0b1_v118 : Ref sig .tc))) (iotaInDim S128x100000 32 1) (constant S_ .f32 0xFF800000#32) (constantI S_ 32 0#32) := by
  after_reads_simp
  rfl

theorem full_split : (opsFull : List (HloOp τ sig (Elt F)))
    = opsFull.take 36 ++ opsArg (fun x y u v j => (Host.argReduce reducer_argmax_f32_i32 x y u v reducesTo_S128x100000_S128_d1 h_S_ j).1)
        (fun x y u v j => (Host.argReduce reducer_argmax_f32_i32 x y u v reducesTo_S128x100000_S128_d1 h_S_ j).2) := rfl

/-- The columns that branch finds, from its rewards. -/
theorem full_result (W : Valuation τ sig (Elt F)) :
    after opsFull W (Proc.devRef .tc (main_v86 : Ref sig .tc)) = fun i : S128.Idx =>
      (Host.argReduce reducer_argmax_f32_i32 (after opsFull W (Proc.devRef .tc (main_case0b1_v118 : Ref sig .tc))) (iotaInDim S128x100000 32 1)
        (constant (F := F) S_ .f32 0xFF800000#32) (constantI S_ 32 0#32) reducesTo_S128x100000_S128_d1 h_S_ i).2 := by
  rw [full_split, after_append]
  exact arg_read _ _ _

/-- The contents after the call, the merge and the doubt. -/
abbrev merged (W : Valuation τ sig (Elt F)) : Valuation τ sig (Elt F) := after opsMerge (called (after opsBefore W))
abbrev doubted (W : Valuation τ sig (Elt F)) : Valuation τ sig (Elt F) := after opsDoubt (merged W)

/-- At the switch every array but the word's is as the doubt left it. -/
theorem atSwitch_v0 (W : Valuation τ sig (Elt F)) :
    atSwitch W (Proc.devRef .tc (main_v0 : Ref sig .tc)) = after opsBefore W (Proc.devRef .tc (main_v0 : Ref sig .tc)) := by
  rw [← atSwitch_eq]
  show after [opWord] (after opsDoubt (after opsMerge (called (after opsBefore W)))) (Proc.devRef .tc (main_v0 : Ref sig .tc)) = _
  after_reads_simp
  exact called_p _
theorem atSwitch_v55 (W : Valuation τ sig (Elt F)) :
    atSwitch W (Proc.devRef .tc (main_v55 : Ref sig .tc)) = merged W (Proc.devRef .tc (main_v55 : Ref sig .tc)) := by
  rw [← atSwitch_eq]
  show after [opWord] (after opsDoubt (merged W)) (Proc.devRef .tc (main_v55 : Ref sig .tc)) = _
  generalize merged W = U
  after_reads_simp
theorem atSwitch_v84 (W : Valuation τ sig (Elt F)) :
    atSwitch W (Proc.devRef .tc (main_v84 : Ref sig .tc)) = doubted W (Proc.devRef .tc (main_v84 : Ref sig .tc)) := by
  rw [← atSwitch_eq]
  show after [opWord] (doubted W) (Proc.devRef .tc (main_v84 : Ref sig .tc)) = _
  generalize doubted W = U
  after_reads_simp
theorem atSwitch_v85 (W : Valuation τ sig (Elt F)) (i : S_.Idx) :
    atSwitch W (Proc.devRef .tc (main_v85 : Ref sig .tc)) i = (doubted W (Proc.devRef .tc (main_v82 : Ref sig .tc)) i).setWidth 32 := by
  rw [← atSwitch_eq]
  show after [opWord] (doubted W) (Proc.devRef .tc (main_v85 : Ref sig .tc)) i = _
  generalize doubted W = U
  after_reads_simp
  rfl

/-- The result is a column of the words the taken branch leaves. -/
theorem atEnd_r (W : Valuation τ sig (Elt F)) (i : S128x1.Idx) :
    atEnd W r' i = after (opsSwitch (word W)) (atSwitch W) (Proc.devRef .tc (main_v86 : Ref sig .tc)) (ix1 (i 0)) := by
  rw [atEnd_eq]
  generalize after (opsSwitch (word W)) (atSwitch W) = U
  show after [opLast] U (Proc.devRef .tc (main_v87 : Ref sig .tc)) i = _
  after_reads_at

theorem keep_result (W : Valuation τ sig (Elt F)) :
    after opsKeep W (Proc.devRef .tc (main_v86 : Ref sig .tc)) = W (Proc.devRef .tc (main_v55 : Ref sig .tc)) := by
  after_reads_simp
  rfl

end AnyFloats

/-! ## Over the extended reals -/

variable (W : Valuation τ sig (Elt Ideal))

/-- The number of a word. -/
abbrev flt (w : BitVec 32) : EReal := FloatOps.sitofp (F := Ideal) FTy.f32 w

/-- A sum of extended reals. -/
abbrev plus (x y : EReal) : EReal := x + y

/-- The bonus from a row's number `i`, its logarithm `l` and a column's number. -/
abbrev bonusFrom (l i j : EReal) : EReal :=
  Ideal.ofBits FTy.f32 1056964608#32 * Ideal.sqrt (Ideal.div l (1 + i * (1 + i * Ideal.ofBits FTy.f32 1203982336#32 + j)))

/-- The transposed input. -/
theorem table_P (i : S100000x128.Idx) :
    after opsBefore W (Proc.devRef .tc (main_v0 : Ref sig .tc)) i = W (Proc.devRef .tc (main_arg0 : Ref sig .tc)) (ix2 (i 1) (i 0)) := by
  after_reads_at

/-- The table of bonuses. -/
theorem table_B (i : S100000x16.Idx) :
    after opsBefore W (Proc.devRef .tc (main_v23 : Ref sig .tc)) i = bonus (flt (BitVec.ofNat 32 (i 1).val)) (flt (BitVec.ofNat 32 (i 0).val)) := by
  after_reads_at
  rfl

/-- A shard's reward at a row: a light row's value takes its bonus here. -/
theorem merge_rew (i : S32x128.Idx) :
    after opsMerge W (Proc.devRef .tc (main_v49 : Ref sig .tc)) i
      = Scalar.select (FloatOps.cmpf (F := Ideal) (φ := .f32) .oge (flt (BitVec.ofNat 32 (i 1).val)) (Ideal.ofBits FTy.f32 1098907648#32))
          (plus (W (Proc.devRef .tc (main_v24_0 : Ref sig .tc)) i)
            (bonus (flt (BitVec.ofNat 32 (i 1).val)) (flt (W (Proc.devRef .tc (main_v24_1 : Ref sig .tc)) i))))
          (W (Proc.devRef .tc (main_v24_0 : Ref sig .tc)) i) := by
  after_reads_at
  rfl

/-- The best reward of a row. -/
theorem merge_best (i : S128.Idx) :
    after opsMerge W (Proc.devRef .tc (main_v50 : Ref sig .tc)) i
      = Host.reduce (α := Ideal .f32) FloatOps.maximumf (after opsMerge W (Proc.devRef .tc (main_v49 : Ref sig .tc)))
          (constant S_ .f32 0xFF800000#32) reducesTo_S32x128_S128_d0 h_S_ i := by
  after_reads_simp

/-- A shard's word where it reaches the best. -/
theorem merge_word (i : S32x128.Idx) :
    after opsMerge W (Proc.devRef .tc (main_v54 : Ref sig .tc)) i
      = Scalar.select (FloatOps.cmpf (F := Ideal) (φ := .f32) .oeq (after opsMerge W (Proc.devRef .tc (main_v49 : Ref sig .tc)) i)
            (after opsMerge W (Proc.devRef .tc (main_v50 : Ref sig .tc)) (ix1 (i 1))))
          (W (Proc.devRef .tc (main_v24_1 : Ref sig .tc)) i) 2147483647#32 := by
  after_reads_at

/-- The least such word of a row. -/
theorem merge_idx (i : S128.Idx) :
    after opsMerge W (Proc.devRef .tc (main_v55 : Ref sig .tc)) i
      = Host.reduce IntOp.minsi (after opsMerge W (Proc.devRef .tc (main_v54 : Ref sig .tc))) (constantI S_ 32 2147483647#32)
          reducesTo_S32x128_S128_d0 h_S_ i := by
  after_reads_simp

/-- The rows' numbers, their logarithms, which rows are light, and the runners-up, as the merge leaves them. -/
theorem merge_row (i : S1x128.Idx) :
    after opsMerge W (Proc.devRef .tc (main_v26 : Ref sig .tc)) i = flt (BitVec.ofNat 32 (i 1).val) := by
  after_reads_at
theorem merge_log (i : S1x128.Idx) :
    after opsMerge W (Proc.devRef .tc (main_v29 : Ref sig .tc)) i = Ideal.log (flt (BitVec.ofNat 32 (i 1).val) + 1) := by
  after_reads_at
theorem merge_light (i : S1x128.Idx) :
    after opsMerge W (Proc.devRef .tc (main_v47 : Ref sig .tc)) i
      = FloatOps.cmpf (F := Ideal) (φ := .f32) .oge (flt (BitVec.ofNat 32 (i 1).val)) (Ideal.ofBits FTy.f32 1098907648#32) := by
  after_reads_at
theorem merge_m : after opsMerge W (Proc.devRef .tc (main_v24_2 : Ref sig .tc)) = W (Proc.devRef .tc (main_v24_2 : Ref sig .tc)) := by
  after_reads_simp

/-- The bit of doubt of a shard and a row, from any contents. -/
theorem doubt_bit (i : S32x128.Idx) :
    after opsDoubt W (Proc.devRef .tc (main_v81 : Ref sig .tc)) i
      = IntOp.andi (W (Proc.devRef .tc (main_v47 : Ref sig .tc)) (ix2 0 (i 1)))
          (FloatOps.cmpf (F := Ideal) (φ := .f32) .oge
            (plus (W (Proc.devRef .tc (main_v24_2 : Ref sig .tc)) i)
              (bonusFrom (W (Proc.devRef .tc (main_v29 : Ref sig .tc)) (ix2 0 (i 1))) (W (Proc.devRef .tc (main_v26 : Ref sig .tc)) (ix2 0 (i 1)))
                (flt (BitVec.ofNat 32 (i 0).val) * Ideal.ofBits FTy.f32 1162039296#32)))
            (W (Proc.devRef .tc (main_v50 : Ref sig .tc)) (ix1 (i 1)))) := by
  after_reads_at

/-- The bit of doubt after the merge: a light row whose runner-up with the shard's first bonus reaches the best. -/
theorem doubt_merged (i : S32x128.Idx) :
    after opsDoubt (after opsMerge W) (Proc.devRef .tc (main_v81 : Ref sig .tc)) i
      = IntOp.andi (FloatOps.cmpf (F := Ideal) (φ := .f32) .oge (flt (BitVec.ofNat 32 (i 1).val)) (Ideal.ofBits FTy.f32 1098907648#32))
          (FloatOps.cmpf (F := Ideal) (φ := .f32) .oge
            (plus (W (Proc.devRef .tc (main_v24_2 : Ref sig .tc)) i)
              (bonus (flt (BitVec.ofNat 32 (i 1).val)) (flt (BitVec.ofNat 32 (i 0).val) * Ideal.ofBits FTy.f32 1162039296#32)))
            (after opsMerge W (Proc.devRef .tc (main_v50 : Ref sig .tc)) (ix1 (i 1)))) := by
  rw [doubt_bit, merge_light, merge_log, merge_row, merge_m]
  rfl

/-- Whether there is any doubt. -/
theorem doubt_any (i : S_.Idx) :
    after opsDoubt W (Proc.devRef .tc (main_v82 : Ref sig .tc)) i
      = Host.reduce IntOp.ori (after opsDoubt W (Proc.devRef .tc (main_v81 : Ref sig .tc))) (constantI S_ 1 0#1) reducesTo_S32x128_S_d0_1 h_S_ i := by
  after_reads_simp

/-- A choice between zero and zero. -/
theorem doubt_zero (i : S_.Idx) : after opsDoubt W (Proc.devRef .tc (main_v84 : Ref sig .tc)) i = (0 : EReal) := by
  have same : ∀ (c : S_.Idx → BitVec 1) (a : S_.Idx → EReal), select c a a = a := fun c a => by
    funext k; unfold select Scalar.select; exact ite_self _
  have zero : Ideal.ofBits FTy.f32 0#32 = 0 := by simp [Ideal.ofBits, Ideal.ieee]
  after_reads_simp
  simp -implicitDefEqProofs only [StableHlo.TRef.toBuf, StableHlo.TRef.ofBuf, cast_cast, cast_eq, id]
  exact (congrFun (same _ _) i).trans zero

/-- The rewards of the branch with doubt. -/
theorem full_rew (i : S128x100000.Idx) (h0 : W (Proc.devRef .tc (main_v84 : Ref sig .tc)) ix0 = (0 : EReal)) :
    after opsFull W (Proc.devRef .tc (main_case0b1_v118 : Ref sig .tc)) i
      = plus (W (Proc.devRef .tc (main_v0 : Ref sig .tc)) (ix2 (i 1) (i 0)))
          (bonus (flt (BitVec.ofNat 32 (i 0).val)) (flt (BitVec.ofNat 32 (i 1).val))) := by
  after_reads_at
  rw [h0]
  simp only [add_zero]
  rfl

end Cert.Proof.Tile

end
-- ==== Proof.RefReads.lean ====
/-
  What the reference's operations leave, read at an index over the extended reals.
-/
module

public import proofs.«01_k».proof.Proof.Ref
public import proofs.«01_k».proof.Proof.Bonus
public import Idealize.ShloMosaic.Lib.StableHlo.ReadAt
public import Idealize.ShloMosaic.Lib.Pointwise.Tactic

@[expose] public section

noncomputable section

namespace Cert.Proof.Ref

open Cert.ReferenceIdeal Cert.ReferenceIdeal.Gen
open Idealize.ShloMosaic Idealize.ShloMosaic.TcCoe Idealize.ShloMosaic.StableHlo Idealize.SL.Sem

/-- The argmax and the column it becomes, from any contents, with the two results of the argmax as `f` and `g`. -/
abbrev opsArg {F : FTy → Type} [FloatOps F]
    (f : (S128x100000.Idx → F .f32) → (S128x100000.Idx → BitVec 32) → (S_.Idx → F .f32) → (S_.Idx → BitVec 32) → S128.Idx → F .f32)
    (g : (S128x100000.Idx → F .f32) → (S128x100000.Idx → BitVec 32) → (S_.Idx → F .f32) → (S_.Idx → BitVec 32) → S128.Idx → BitVec 32) :
    List (HloOp τ sig (Elt F)) :=
  [ TRef.nullary (.of main_call0_v0 : TRef sig ⟨S128x100000, .i32⟩) (iotaInDim S128x100000 32 1),
    TRef.nullary (.of main_call0_cst : TRef sig ⟨S_, .f32⟩) (constant S_ .f32 0xFF800000#32),
    TRef.nullary (.of main_call0_c : TRef sig ⟨S_, .i32⟩) (constantI S_ 32 0#32),
    TRef.quaternary (.of main_v23 : TRef sig ⟨S128x100000, .f32⟩) (.of main_call0_v0 : TRef sig ⟨S128x100000, .i32⟩) (.of main_call0_cst : TRef sig ⟨S_, .f32⟩) (.of main_call0_c : TRef sig ⟨S_, .i32⟩) (.of main_call0_v1_0 : TRef sig ⟨S128, .f32⟩) f,
    TRef.quaternary (.of main_v23 : TRef sig ⟨S128x100000, .f32⟩) (.of main_call0_v0 : TRef sig ⟨S128x100000, .i32⟩) (.of main_call0_cst : TRef sig ⟨S_, .f32⟩) (.of main_call0_c : TRef sig ⟨S_, .i32⟩) (.of main_v24 : TRef sig ⟨S128, .i32⟩) g,
    unary main_v24 main_v25 (broadcastInDim S128x1 ![0] bcast_S128_S128x1_0 : (⟨S128, .i32⟩ : BufTy).Contents (Elt F) → (⟨S128x1, .i32⟩ : BufTy).Contents (Elt F)) ]

theorem arg_read {F : FTy → Type} [FloatOps F] (W : Valuation τ sig (Elt F))
    (f : (S128x100000.Idx → F .f32) → (S128x100000.Idx → BitVec 32) → (S_.Idx → F .f32) → (S_.Idx → BitVec 32) → S128.Idx → F .f32)
    (g : (S128x100000.Idx → F .f32) → (S128x100000.Idx → BitVec 32) → (S_.Idx → F .f32) → (S_.Idx → BitVec 32) → S128.Idx → BitVec 32) (i : S128x1.Idx) :
    after (opsArg f g) W (Proc.devRef .tc (main_v25 : Ref sig .tc)) i
      = g (after (opsArg f g) W (Proc.devRef .tc (main_v23 : Ref sig .tc))) (iotaInDim S128x100000 32 1) (constant S_ .f32 0xFF800000#32)
          (constantI S_ 32 0#32) (ix1 (i 0)) := by
  after_reads_at

theorem ops_split {F : FTy → Type} [FloatOps F] : (ops : List (HloOp τ sig (Elt F)))
    = ops.take 29 ++ opsArg (fun x y u v j => (Host.argReduce reducer_argmax_f32_i32 x y u v reducesTo_S128x100000_S128_d1 h_S_ j).1)
        (fun x y u v j => (Host.argReduce reducer_argmax_f32_i32 x y u v reducesTo_S128x100000_S128_d1 h_S_ j).2) := rfl

/-- The reference's result, from its rewards. -/
theorem result {F : FTy → Type} [FloatOps F] (W : Valuation τ sig (Elt F)) (i : S128x1.Idx) :
    after ops W (Proc.devRef .tc (main_v25 : Ref sig .tc)) i
      = (Host.argReduce reducer_argmax_f32_i32 (after ops W (Proc.devRef .tc (main_v23 : Ref sig .tc))) (iotaInDim S128x100000 32 1)
          (constant (F := F) S_ .f32 0xFF800000#32) (constantI S_ 32 0#32) reducesTo_S128x100000_S128_d1 h_S_ (ix1 (i 0))).2 := by
  rw [ops_split, after_append]
  exact arg_read _ _ _ i

/-- The reference's rewards. -/
theorem rewards (W : Valuation τ sig (Elt Ideal)) (i : S128x100000.Idx) :
    after ops W (Proc.devRef .tc (main_v23 : Ref sig .tc)) i
      = HAdd.hAdd (α := EReal) (β := EReal) (γ := EReal) (W (Proc.devRef .tc (main_arg0 : Ref sig .tc)) i)
          (bonus (FloatOps.sitofp (F := Ideal) FTy.f32 (BitVec.ofNat 32 (i 0).val)) (FloatOps.sitofp (F := Ideal) FTy.f32 (BitVec.ofNat 32 (i 1).val))) := by
  after_reads_at
  rfl

end Cert.Proof.Ref

end
-- ==== Proof.First.lean ====
/-
  The first column at which a row is greatest, and three ways to find it over the extended reals: a scan column by
  column, a fold over pairs of value and column in any order, and a merge of what thirty-two shards found.
-/
module

public import proofs.«01_k».proof.Proof.Fold
public import Idealize.ShloMosaic.PureOps.Ideal.Laws

@[expose] public section

noncomputable section

namespace Cert.Proof

open Idealize.ShloMosaic

/-- Among the first `n` columns `k` is the first at which `x` is greatest. -/
def FirstMax (x : ℕ → EReal) (n k : ℕ) : Prop := k < n ∧ ∀ j < n, x j ≤ x k ∧ (j < k → x j < x k)

/-- There is no more than one such column. -/
theorem FirstMax.unique {x : ℕ → EReal} {n k l : ℕ} (hk : FirstMax x n k) (hl : FirstMax x n l) : k = l := by
  rcases lt_trichotomy k l with h | h | h
  · exact absurd ((hl.2 k hk.1).2 h) (not_lt.mpr (hk.2 l hl.1).1)
  · exact h
  · exact absurd ((hk.2 l hl.1).2 h) (not_lt.mpr (hl.2 k hk.1).1)

/-- A word that names that column. -/
def IsArg (x : ℕ → EReal) (n : ℕ) (w : BitVec 32) : Prop := ∃ k, FirstMax x n k ∧ w = BitVec.ofNat 32 k

theorem IsArg.unique {x : ℕ → EReal} {n : ℕ} {v w : BitVec 32} (hv : IsArg x n v) (hw : IsArg x n w) : v = w := by
  obtain ⟨k, hk, rfl⟩ := hv
  obtain ⟨l, hl, rfl⟩ := hw
  rw [hk.unique hl]

/-- It depends on the values at the columns alone. -/
theorem IsArg.congr {x y : ℕ → EReal} {n : ℕ} {w : BitVec 32} (hw : IsArg x n w) (h : ∀ j < n, x j = y j) : IsArg y n w := by
  obtain ⟨k, hk, rfl⟩ := hw
  refine ⟨k, ⟨hk.1, fun j hj => ?_⟩, rfl⟩
  rw [← h j hj, ← h k hk.1]
  exact hk.2 j hj

/-! ## Comparisons of extended reals, read as propositions -/

theorem select_ogt {α : Type} (x y : EReal) (a b : α) :
    Scalar.select (FloatOps.cmpf (F := Ideal) (φ := .f32) .ogt x y) a b = if y < x then a else b := by
  rw [Ideal.cmpf_def]
  by_cases h : y < x <;> simp [Scalar.select, Ideal.cmp, h]

theorem select_oge {α : Type} (x y : EReal) (a b : α) :
    Scalar.select (FloatOps.cmpf (F := Ideal) (φ := .f32) .oge x y) a b = if y ≤ x then a else b := by
  rw [Ideal.cmpf_def]
  by_cases h : y ≤ x <;> simp [Scalar.select, Ideal.cmp, h]

theorem select_oeq {α : Type} (x y : EReal) (a b : α) :
    Scalar.select (FloatOps.cmpf (F := Ideal) (φ := .f32) .oeq x y) a b = if x = y then a else b := by
  rw [Ideal.cmpf_def]
  by_cases h : x = y <;> simp [Scalar.select, Ideal.cmp, h]

theorem oge_zero (x y : EReal) : FloatOps.cmpf (F := Ideal) (φ := .f32) .oge x y = 0#1 ↔ x < y := by
  rw [Ideal.cmpf_def, ← not_le]
  by_cases h : y ≤ x <;> simp [Ideal.cmp, h]

theorem oge_one (x y : EReal) : FloatOps.cmpf (F := Ideal) (φ := .f32) .oge x y = 1#1 ↔ y ≤ x := by
  rw [Ideal.cmpf_def]
  by_cases h : y ≤ x <;> simp [Ideal.cmp, h]

/-- The pattern of minus infinity. -/
theorem ninf_ideal : (Tile.ninf : Ideal .f32) = (⊥ : EReal) := by
  show Ideal.ofBits .f32 0xFF800000#32 = ⊥
  simp [Ideal.ofBits, Ideal.ieee]

/-! ## The scan -/

/-- What a heavy row's scan has found after the `n` columns from `j0`, of value `x` and bonus `b`. -/
theorem hFold_spec (x b : ℕ → EReal) (j0 : ℕ) : ∀ n : ℕ,
    ((Tile.hFold (F := Ideal) x b j0 n).1 = (⊥ : EReal) ∧ (Tile.hFold (F := Ideal) x b j0 n).2 = 0#32 ∧ ∀ j, j0 ≤ j → j < j0 + n → x j + b j = ⊥)
      ∨ ∃ k, j0 ≤ k ∧ k < j0 + n ∧ (Tile.hFold (F := Ideal) x b j0 n).2 = BitVec.ofNat 32 k ∧ (Tile.hFold (F := Ideal) x b j0 n).1 = x k + b k
          ∧ ∀ j, j0 ≤ j → j < j0 + n → x j + b j ≤ x k + b k ∧ (j < k → x j + b j < x k + b k)
  | 0 => Or.inl ⟨ninf_ideal, rfl, fun j h h' => absurd h (by omega)⟩
  | n + 1 => by
    have ih := hFold_spec x b j0 n
    have e1 : (Tile.hFold (F := Ideal) x b j0 (n + 1)).1
        = if (Tile.hFold (F := Ideal) x b j0 n).1 < x (j0 + n) + b (j0 + n) then x (j0 + n) + b (j0 + n) else (Tile.hFold (F := Ideal) x b j0 n).1 :=
      select_ogt _ _ _ _
    have e2 : (Tile.hFold (F := Ideal) x b j0 (n + 1)).2
        = if (Tile.hFold (F := Ideal) x b j0 n).1 < x (j0 + n) + b (j0 + n) then BitVec.ofNat 32 (j0 + n) else (Tile.hFold (F := Ideal) x b j0 n).2 :=
      select_ogt _ _ _ _
    rw [e1, e2]
    generalize Tile.hFold (F := Ideal) x b j0 n = s at ih ⊢
    rcases ih with ⟨h1, h2, h3⟩ | ⟨k, hk, hk', h2, h1, h3⟩
    · rw [h1]
      by_cases hc : (⊥ : EReal) < x (j0 + n) + b (j0 + n)
      · refine Or.inr ⟨j0 + n, by omega, by omega, if_pos hc, if_pos hc, fun j hj hj' => ?_⟩
        rcases Nat.lt_or_ge j (j0 + n) with hlt | hge
        · rw [h3 j hj hlt]; exact ⟨bot_le, fun _ => hc⟩
        · obtain rfl : j = j0 + n := by omega
          exact ⟨le_rfl, fun h => absurd h (lt_irrefl _)⟩
      · refine Or.inl ⟨if_neg hc, (if_neg hc).trans h2, fun j hj hj' => ?_⟩
        rcases Nat.lt_or_ge j (j0 + n) with hlt | hge
        · exact h3 j hj hlt
        · obtain rfl : j = j0 + n := by omega
          exact not_bot_lt_iff.mp hc
    · rw [h1]
      by_cases hc : x k + b k < x (j0 + n) + b (j0 + n)
      · refine Or.inr ⟨j0 + n, by omega, by omega, if_pos hc, if_pos hc, fun j hj hj' => ?_⟩
        rcases Nat.lt_or_ge j (j0 + n) with hlt | hge
        · have := (h3 j hj hlt).1.trans_lt hc
          exact ⟨this.le, fun _ => this⟩
        · obtain rfl : j = j0 + n := by omega
          exact ⟨le_rfl, fun h => absurd h (lt_irrefl _)⟩
      · refine Or.inr ⟨k, hk, by omega, (if_neg hc).trans h2, if_neg hc, fun j hj hj' => ?_⟩
        rcases Nat.lt_or_ge j (j0 + n) with hlt | hge
        · exact h3 j hj hlt
        · obtain rfl : j = j0 + n := by omega
          exact ⟨not_lt.mp hc, fun h => absurd h (by omega)⟩

/-- What a light row's scan has found after the `n` columns from `j0`: the first column at which the value is greatest,
    and a bound on the values before it. -/
theorem lFold_spec (x : ℕ → EReal) (j0 : ℕ) : ∀ n : ℕ,
    ((Tile.lFold (F := Ideal) x j0 n).1 = (⊥ : EReal) ∧ (Tile.lFold (F := Ideal) x j0 n).2.1 = 0#32 ∧ ∀ j, j0 ≤ j → j < j0 + n → x j = ⊥)
      ∨ ∃ k, j0 ≤ k ∧ k < j0 + n ∧ (Tile.lFold (F := Ideal) x j0 n).2.1 = BitVec.ofNat 32 k ∧ (Tile.lFold (F := Ideal) x j0 n).1 = x k
          ∧ ∀ j, j0 ≤ j → j < j0 + n → x j ≤ x k ∧ (j < k → x j ≤ (Tile.lFold (F := Ideal) x j0 n).2.2)
  | 0 => Or.inl ⟨ninf_ideal, rfl, fun j h h' => absurd h (by omega)⟩
  | n + 1 => by
    have ih := lFold_spec x j0 n
    have e1 : (Tile.lFold (F := Ideal) x j0 (n + 1)).1
        = if (Tile.lFold (F := Ideal) x j0 n).1 < x (j0 + n) then x (j0 + n) else (Tile.lFold (F := Ideal) x j0 n).1 := select_ogt _ _ _ _
    have e2 : (Tile.lFold (F := Ideal) x j0 (n + 1)).2.1
        = if (Tile.lFold (F := Ideal) x j0 n).1 < x (j0 + n) then BitVec.ofNat 32 (j0 + n) else (Tile.lFold (F := Ideal) x j0 n).2.1 := select_ogt _ _ _ _
    have e3 : (Tile.lFold (F := Ideal) x j0 (n + 1)).2.2
        = if (Tile.lFold (F := Ideal) x j0 n).1 < x (j0 + n) then (Tile.lFold (F := Ideal) x j0 n).1 else (Tile.lFold (F := Ideal) x j0 n).2.2 := select_ogt _ _ _ _
    rw [e1, e2, e3]
    generalize Tile.lFold (F := Ideal) x j0 n = s at ih ⊢
    rcases ih with ⟨h1, h2, h3⟩ | ⟨k, hk, hk', h2, h1, h3⟩
    · rw [h1]
      by_cases hc : (⊥ : EReal) < x (j0 + n)
      · refine Or.inr ⟨j0 + n, by omega, by omega, if_pos hc, if_pos hc, fun j hj hj' => ?_⟩
        rcases Nat.lt_or_ge j (j0 + n) with hlt | hge
        · rw [h3 j hj hlt]; exact ⟨bot_le, fun _ => bot_le⟩
        · obtain rfl : j = j0 + n := by omega
          exact ⟨le_rfl, fun h => absurd h (lt_irrefl _)⟩
      · refine Or.inl ⟨if_neg hc, (if_neg hc).trans h2, fun j hj hj' => ?_⟩
        rcases Nat.lt_or_ge j (j0 + n) with hlt | hge
        · exact h3 j hj hlt
        · obtain rfl : j = j0 + n := by omega
          exact not_bot_lt_iff.mp hc
    · rw [h1]
      by_cases hc : x k < x (j0 + n)
      · refine Or.inr ⟨j0 + n, by omega, by omega, if_pos hc, if_pos hc, fun j hj hj' => ?_⟩
        rw [if_pos hc]
        rcases Nat.lt_or_ge j (j0 + n) with hlt | hge
        · exact ⟨((h3 j hj hlt).1.trans_lt hc).le, fun _ => (h3 j hj hlt).1⟩
        · obtain rfl : j = j0 + n := by omega
          exact ⟨le_rfl, fun h => absurd h (lt_irrefl _)⟩
      · refine Or.inr ⟨k, hk, by omega, (if_neg hc).trans h2, if_neg hc, fun j hj hj' => ?_⟩
        rw [if_neg hc]
        rcases Nat.lt_or_ge j (j0 + n) with hlt | hge
        · exact h3 j hj hlt
        · obtain rfl : j = j0 + n := by omega
          exact ⟨not_lt.mp hc, fun h => absurd h (by omega)⟩

/-! ## A fold over pairs -/

theorem toNat_col {k : ℕ} (h : k < 100000) : (BitVec.ofNat 32 k).toNat = k := by
  rw [BitVec.toNat_ofNat]; omega

theorem slt_col {k l : ℕ} (hk : k < 100000) (hl : l < 100000) : (BitVec.ofNat 32 k).slt (BitVec.ofNat 32 l) = decide (k < l) := by
  have ek : (BitVec.ofNat 32 k).toInt = k := by rw [BitVec.toInt_eq_toNat_of_lt (by rw [toNat_col hk]; omega), toNat_col hk]
  have el : (BitVec.ofNat 32 l).toInt = l := by rw [BitVec.toInt_eq_toNat_of_lt (by rw [toNat_col hl]; omega), toNat_col hl]
  rw [BitVec.slt, ek, el]
  simp

/-- The greater value and its column; of equal values the lesser column. -/
def better (a b : EReal × BitVec 32) : EReal × BitVec 32 :=
  (if b.1 < a.1 then a.1 else b.1, if b.1 < a.1 ∨ a.1 = b.1 ∧ a.2.slt b.2 then a.2 else b.2)

/-- Such a fold, begun at minus infinity and column 0, finds the greatest value it meets and the least column of it. -/
theorem better_foldl {ι : Type} (x : ι → EReal) (c : ι → ℕ) : ∀ (l : List ι) (M : EReal) (k : ℕ), k < 100000 → (∀ i ∈ l, c i < 100000) →
    ∃ M' k', k' < 100000 ∧ l.foldl (fun r i => better r (x i, BitVec.ofNat 32 (c i))) (M, BitVec.ofNat 32 k) = (M', BitVec.ofNat 32 k')
      ∧ ((M' = M ∧ k' = k) ∨ ∃ i ∈ l, x i = M' ∧ c i = k') ∧ (M < M' ∨ M = M' ∧ k' ≤ k) ∧ ∀ i ∈ l, x i < M' ∨ x i = M' ∧ k' ≤ c i
  | [], M, k, hk, _ => ⟨M, k, hk, rfl, Or.inl ⟨rfl, rfl⟩, Or.inr ⟨rfl, le_rfl⟩, fun i h => absurd h (List.not_mem_nil)⟩
  | a :: l, M, k, hk, hl => by
    have ha : c a < 100000 := hl a (List.mem_cons_self ..)
    have hl' : ∀ i ∈ l, c i < 100000 := fun i hi => hl i (List.mem_cons_of_mem _ hi)
    have step : ∃ N n, n < 100000 ∧ better (M, BitVec.ofNat 32 k) (x a, BitVec.ofNat 32 (c a)) = (N, BitVec.ofNat 32 n)
        ∧ ((N = M ∧ n = k) ∨ (x a = N ∧ c a = n)) ∧ (M < N ∨ M = N ∧ n ≤ k) ∧ (x a < N ∨ x a = N ∧ n ≤ c a) := by
      unfold better
      simp only [slt_col hk ha, decide_eq_true_eq]
      rcases lt_trichotomy (x a) M with h | h | h
      · exact ⟨M, k, hk, by simp [h], Or.inl ⟨rfl, rfl⟩, Or.inr ⟨rfl, le_rfl⟩, Or.inl h⟩
      · by_cases hc : k < c a
        · exact ⟨M, k, hk, by simp [h, hc], Or.inl ⟨rfl, rfl⟩, Or.inr ⟨rfl, le_rfl⟩, Or.inr ⟨h, hc.le⟩⟩
        · exact ⟨M, c a, ha, by simp [h, hc], Or.inr ⟨h, rfl⟩, Or.inr ⟨rfl, not_lt.mp hc⟩, Or.inr ⟨h, le_rfl⟩⟩
      · exact ⟨x a, c a, ha, by simp [h.not_gt, h.ne], Or.inr ⟨rfl, rfl⟩, Or.inl h, Or.inr ⟨rfl, le_rfl⟩⟩
    obtain ⟨N, n, hn, e, h1, h2, h3⟩ := step
    obtain ⟨M', k', hk', e', g1, g2, g3⟩ := better_foldl x c l N n hn hl'
    have up : ∀ (y : EReal) (q : ℕ), (y < N ∨ y = N ∧ n ≤ q) → (y < M' ∨ y = M' ∧ k' ≤ q) := by
      rintro y q (h | ⟨h, h'⟩)
      · rcases g2 with g | ⟨g, _⟩
        · exact Or.inl (h.trans g)
        · exact Or.inl (g ▸ h)
      · rcases g2 with g | ⟨g, g'⟩
        · exact Or.inl (h ▸ g)
        · exact Or.inr ⟨h.trans g, g'.trans h'⟩
    refine ⟨M', k', hk', by rw [List.foldl_cons, e, e'], ?_, up M k h2, fun i hi => ?_⟩
    · rcases g1 with ⟨g, g'⟩ | ⟨i, hi, g⟩
      · rcases h1 with ⟨h, h'⟩ | ⟨h, h'⟩
        · exact Or.inl ⟨g.trans h, g'.trans h'⟩
        · exact Or.inr ⟨a, List.mem_cons_self .., h.trans g.symm, h'.trans g'.symm⟩
      · exact Or.inr ⟨i, List.mem_cons_of_mem _ hi, g⟩
    · rcases List.mem_cons.mp hi with rfl | hi
      · exact up _ _ h3
      · exact g3 i hi

/-! ## The merge -/

/-- What a shard tells of its columns, given the best reward of the row: either every reward in it is below the best, or
    its word names the first of its columns that reaches the best. -/
def Told (r : ℕ → EReal) (best : EReal) (lo hi : ℕ) (v : EReal) (i : BitVec 32) : Prop :=
  (v < best ∧ ∀ j, lo ≤ j → j < hi → r j < best)
    ∨ ∃ k, lo ≤ k ∧ k < hi ∧ i = BitVec.ofNat 32 k ∧ v = best ∧ r k = best ∧ ∀ j, lo ≤ j → j < hi → r j ≤ best ∧ (j < k → r j < best)

theorem toInt_col {k : ℕ} (hk : k < 100000) : (BitVec.ofNat 32 k).toInt = k := by
  rw [BitVec.toInt_eq_toNat_of_lt (by rw [toNat_col hk]; omega), toNat_col hk]

/-- The least word among the shards that reach the best names the first column of the row that does. -/
theorem merge (r : ℕ → EReal) (best : EReal) (V : Fin 32 → EReal) (I : Fin 32 → BitVec 32) (idx : BitVec 32)
    (htold : ∀ w : Fin 32, Told r best (3125 * w.val) (3125 * w.val + 3125) (V w) (I w))
    (hhit : ∃ w, V w = best ∧ idx = I w) (hmin : ∀ w, V w = best → idx.toInt ≤ (I w).toInt) : IsArg r 100000 idx := by
  obtain ⟨w, hw, rfl⟩ := hhit
  rcases htold w with ⟨h, _⟩ | ⟨k, hk, hk', hi, _, hr, _⟩
  · exact absurd hw h.ne
  refine ⟨k, ⟨by omega, fun j hj => ?_⟩, hi⟩
  rw [hr]
  have hlo : 3125 * (j / 3125) ≤ j := Nat.mul_div_le j 3125
  have hhi : j < 3125 * (j / 3125) + 3125 := by omega
  rcases htold ⟨j / 3125, by omega⟩ with ⟨_, h⟩ | ⟨l, hl, hl', hi', hv', hr', h⟩
  · exact ⟨(h j hlo hhi).le, fun _ => h j hlo hhi⟩
  · refine ⟨(h j hlo hhi).1, fun hjk => (h j hlo hhi).2 ?_⟩
    have hm := hmin _ hv'
    dsimp only at hl'
    rw [hi, hi', toInt_col (by omega), toInt_col (by omega)] at hm
    omega

/-- What a shard's scan found, of rewards `r`: nothing above minus infinity, or the first column at which they are greatest. -/
def Found (r : ℕ → EReal) (lo hi : ℕ) (v : EReal) (i : BitVec 32) : Prop :=
  (v = ⊥ ∧ i = 0#32 ∧ ∀ j, lo ≤ j → j < hi → r j = ⊥)
    ∨ ∃ k, lo ≤ k ∧ k < hi ∧ i = BitVec.ofNat 32 k ∧ v = r k ∧ ∀ j, lo ≤ j → j < hi → r j ≤ r k ∧ (j < k → r j < r k)

/-- The merge of a heavy row. -/
theorem merge_heavy (r : ℕ → EReal) (best : EReal) (V : Fin 32 → EReal) (I : Fin 32 → BitVec 32) (idx : BitVec 32)
    (hfound : ∀ w : Fin 32, Found r (3125 * w.val) (3125 * w.val + 3125) (V w) (I w)) (hle : ∀ w, V w ≤ best)
    (hhit : ∃ w, V w = best ∧ idx = I w) (hmin : ∀ w, V w = best → idx.toInt ≤ (I w).toInt) : IsArg r 100000 idx := by
  by_cases hb : best = ⊥
  · subst hb
    have hV : ∀ w, V w = ⊥ := fun w => le_bot_iff.mp (hle w)
    have hr : ∀ j < 100000, r j = ⊥ := fun j hj => by
      have hlo : 3125 * (j / 3125) ≤ j := Nat.mul_div_le j 3125
      have hhi : j < 3125 * (j / 3125) + 3125 := by omega
      rcases hfound ⟨j / 3125, by omega⟩ with ⟨_, _, h⟩ | ⟨k, _, _, _, hv, h⟩
      · exact h j hlo hhi
      · exact le_bot_iff.mp ((h j hlo hhi).1.trans (hv.symm.trans (hV _)).le)
    have h0 : I 0 = 0#32 := by
      rcases hfound 0 with ⟨_, h, _⟩ | ⟨k, hk, hk', hi, hv, h⟩
      · exact h
      · have hk0 : k = 0 := by
          by_contra hne
          have := (h 0 (by simp) (by simp)).2 (Nat.pos_of_ne_zero hne)
          rw [← hv, hV] at this
          exact not_lt_bot this
        rw [hi, hk0]
    have hidx : idx = 0#32 := by
      obtain ⟨w, _, rfl⟩ := hhit
      have hm := hmin 0 (hV 0)
      rw [h0] at hm
      rcases hfound w with ⟨_, h, _⟩ | ⟨k, hk, hk', hi, _, _⟩
      · exact h
      · have hw := w.isLt
        rw [hi, toInt_col (by omega)] at hm
        have : k = 0 := by simpa using hm
        rw [hi, this]
    exact ⟨0, ⟨by omega, fun j hj => ⟨by rw [hr j hj]; exact bot_le, fun h => absurd h (Nat.not_lt_zero j)⟩⟩, hidx⟩
  · refine merge r best V I idx (fun w => ?_) hhit hmin
    rcases hfound w with ⟨hv, _, h⟩ | ⟨k, hk, hk', hi, hv, h⟩
    · exact Or.inl ⟨hv ▸ bot_lt_iff_ne_bot.mpr hb, fun j hj hj' => h j hj hj' ▸ bot_lt_iff_ne_bot.mpr hb⟩
    · rcases (hle w).lt_or_eq with hlt | heq
      · exact Or.inl ⟨hlt, fun j hj hj' => (h j hj hj').1.trans_lt (hv ▸ hlt)⟩
      · have e : r k = best := hv.symm.trans heq
        exact Or.inr ⟨k, hk, hk', hi, heq, e, fun j hj hj' => e ▸ h j hj hj'⟩

/-- What a shard's scan of the values `x` alone found: nothing above minus infinity, or the first column at which they are
    greatest, and a bound `q` on those before it. -/
def Seen (x : ℕ → EReal) (lo hi : ℕ) (v : EReal) (i : BitVec 32) (q : EReal) : Prop :=
  (v = ⊥ ∧ i = 0#32 ∧ ∀ j, lo ≤ j → j < hi → x j = ⊥)
    ∨ ∃ k, lo ≤ k ∧ k < hi ∧ i = BitVec.ofNat 32 k ∧ v = x k ∧ ∀ j, lo ≤ j → j < hi → x j ≤ x k ∧ (j < k → x j ≤ q)

/-- The merge of a light row, of bonuses `c` that do not rise: where no shard's bound with the shard's first bonus reaches the
    best, what was passed over is below it. -/
theorem merge_light (x c : ℕ → EReal) (hc : ∀ j k, j ≤ k → c k ≤ c j) (best : EReal) (V m q : Fin 32 → EReal) (I : Fin 32 → BitVec 32) (idx : BitVec 32)
    (hseen : ∀ w : Fin 32, Seen x (3125 * w.val) (3125 * w.val + 3125) (m w) (I w) (q w)) (hV : ∀ w, V w = m w + c (I w).toNat)
    (hsure : ∀ w : Fin 32, q w + c (3125 * w.val) < best) (hle : ∀ w, V w ≤ best)
    (hhit : ∃ w, V w = best ∧ idx = I w) (hmin : ∀ w, V w = best → idx.toInt ≤ (I w).toInt) : IsArg (fun j => x j + c j) 100000 idx := by
  refine merge _ best V I idx (fun w => ?_) hhit hmin
  have hb : ⊥ < best := bot_le.trans_lt (hsure w)
  rcases hseen w with ⟨hm, _, h⟩ | ⟨k, hk, hk', hi, hm, h⟩
  · refine Or.inl ⟨?_, fun j hj hj' => ?_⟩
    · rw [hV, hm, EReal.bot_add]; exact hb
    · show x j + c j < best
      rw [h j hj hj', EReal.bot_add]; exact hb
  · have hw := w.isLt
    have e : V w = x k + c k := by rw [hV, hm, hi, toNat_col (by omega)]
    have before : ∀ j, 3125 * w.val ≤ j → j < k → x j + c j < best := fun j hj hjk =>
      (add_le_add ((h j hj (by omega)).2 hjk) (hc _ _ hj)).trans_lt (hsure w)
    have all : ∀ j, 3125 * w.val ≤ j → j < 3125 * w.val + 3125 → x j + c j < best ∨ x j + c j ≤ x k + c k := fun j hj hj' => by
      rcases Nat.lt_or_ge j k with hjk | hkj
      · exact Or.inl (before j hj hjk)
      · exact Or.inr (add_le_add (h j hj hj').1 (hc _ _ hkj))
    rcases (hle w).lt_or_eq with hlt | heq
    · exact Or.inl ⟨hlt, fun j hj hj' => (all j hj hj').elim id fun h' => h'.trans_lt (e ▸ hlt)⟩
    · exact Or.inr ⟨k, hk, hk', hi, heq, e.symm.trans heq, fun j hj hj' =>
        ⟨(all j hj hj').elim le_of_lt fun h' => h'.trans (e.symm.trans heq).le, before j hj⟩⟩

/-- The least of the words of the shards that reach the best, every other shard standing at the greatest word. -/
theorem least_hit (best : EReal) (V : Fin 32 → EReal) (I : Fin 32 → BitVec 32) (idx : BitVec 32) (f : Fin 32 → BitVec 32)
    (hf : ∀ w, f w = if V w = best then I w else 2147483647#32) (hmin : ∀ w, idx.toInt ≤ (f w).toInt) (hone : idx = 2147483647#32 ∨ ∃ w, idx = f w)
    (hmax : ∃ w, V w = best) (hcol : ∀ w, ∃ k, k < 100000 ∧ I w = BitVec.ofNat 32 k) :
    (∃ w, V w = best ∧ idx = I w) ∧ ∀ w, V w = best → idx.toInt ≤ (I w).toInt := by
  have below : ∀ w, V w = best → idx.toInt ≤ (I w).toInt := fun w hw => by
    have := hmin w
    rwa [hf, if_pos hw] at this
  refine ⟨?_, below⟩
  have notTop : idx ≠ 2147483647#32 := by
    rintro rfl
    obtain ⟨w, hw⟩ := hmax
    obtain ⟨k, hk, e⟩ := hcol w
    have := below w hw
    rw [e, toInt_col hk] at this
    have top : (2147483647#32 : BitVec 32).toInt = 2147483647 := by decide
    omega
  obtain ⟨w, hw⟩ := hone.resolve_left notTop
  by_cases hv : V w = best
  · exact ⟨w, hv, by rw [hw, hf, if_pos hv]⟩
  · exact absurd (by rw [hw, hf, if_neg hv]) notTop

end Cert.Proof

end
-- ==== Proof.Reduce.lean ====
/-
  The reductions of the programs at one row, over the extended reals: the row's argmax, the maximum and the least word over
  the shards, and whether some bit is set.
-/
module

public import proofs.«01_k».proof.Proof.First
public import Idealize.ShloMosaic.PureOps.Reduce
public import Idealize.ShloMosaic.Lib.Pointwise.Reduce

@[expose] public section

noncomputable section

namespace Cert.Proof

open Idealize.ShloMosaic

/-- The body of the argmax: the greater value and its column, of equal values the lesser column. -/
theorem argmax_body (a b : EReal × BitVec 32) :
    (Cert.KernelIdeal.reducer_argmax_f32_i32 (F := Ideal) : EReal × BitVec 32 → EReal × BitVec 32 → EReal × BitVec 32) a b = better a b := by
  have hne : ∀ y : EReal, FloatOps.cmpf (F := Ideal) (φ := .f32) .une y y = 0#1 := fun y => by rw [Ideal.cmpf_def]; simp [Ideal.cmp]
  have hgt : FloatOps.cmpf (F := Ideal) (φ := .f32) .ogt a.1 b.1 = BitVec.ofBool (decide (b.1 < a.1)) := rfl
  have heq : FloatOps.cmpf (F := Ideal) (φ := .f32) .oeq a.1 b.1 = BitVec.ofBool (decide (a.1 = b.1)) := rfl
  unfold Cert.KernelIdeal.reducer_argmax_f32_i32 better
  dsimp only
  rw [hne a.1, hgt, heq]
  by_cases h1 : b.1 < a.1 <;> by_cases h2 : a.1 = b.1 <;> cases h3 : a.2.slt b.2 <;>
    simp [h1, h2, h3, Scalar.select, IntOp.ori, IntOp.andi, IntOp.cmpi]

/-- The argmax of a row: the word of the first column at which it is greatest. -/
theorem argmax_row (f : EReal × BitVec 32 → EReal × BitVec 32 → EReal × BitVec 32) (hf : ∀ a b, f a b = better a b)
    (x : (⟨2, ![128, 100000]⟩ : Shape).Idx → EReal) (y : (⟨2, ![128, 100000]⟩ : Shape).Idx → BitVec 32) (hy : ∀ i, y i = BitVec.ofNat 32 (i 1).val)
    {u : Shape} (ix : u.Idx → EReal) (iy : u.Idx → BitVec 32) (hix : ∀ i, ix i = ⊥) (hiy : ∀ i, iy i = 0#32)
    (h : (⟨2, ![128, 100000]⟩ : Shape).ReducesTo [1] ⟨1, ![128]⟩) (hu : 0 < u.numel) (i : Fin 128) :
    IsArg (fun j => x (ix2 i (Fin.ofNat 100000 j))) 100000
      (Host.argReduce (F := Ideal) (φ := .f32) f x y ix iy h hu (ix1 i)).2 := by
  obtain rfl : f = better := funext fun a => funext fun b => hf a b
  rw [Ideal.argReduce_eq_reduce2, Host.reduce2_eq_foldl_fiber, Host.argReduceFiber, List.foldl_map, hix, hiy]
  simp only [hy]
  generalize hL : (List.finRange (Shape.numel ⟨2, ![128, 100000]⟩)).filter
    (fun n => decide (h.drop ((Shape.rowMajor ⟨2, ![128, 100000]⟩).symm n) = ix1 i)) = L
  have mem : ∀ n, n ∈ L ↔ ∃ k : Fin 100000, ix2 i k = (Shape.rowMajor ⟨2, ![128, 100000]⟩).symm n := fun n => by
    rw [← hL, List.mem_filter, decide_eq_true_eq]
    exact (and_iff_right (List.mem_finRange n)).trans (h.fiber_r2_a1 (ix1 i) _)
  obtain ⟨M, k, hk, e, hfrom, _, hall⟩ := better_foldl (fun n => x ((Shape.rowMajor ⟨2, ![128, 100000]⟩).symm n))
    (fun n => ((Shape.rowMajor ⟨2, ![128, 100000]⟩).symm n 1).val) L ⊥ 0 (by omega) (fun n _ => Fin.isLt _)
  have all : ∀ j < 100000, x (ix2 i (Fin.ofNat 100000 j)) < M ∨ x (ix2 i (Fin.ofNat 100000 j)) = M ∧ k ≤ j := fun j hj => by
    have hn := hall (Shape.rowMajor ⟨2, ![128, 100000]⟩ (ix2 i (Fin.ofNat 100000 j)))
      ((mem _).mpr ⟨Fin.ofNat 100000 j, (Equiv.symm_apply_apply _ _).symm⟩)
    rw [Equiv.symm_apply_apply] at hn
    have hv : ((ix2 i (Fin.ofNat 100000 j) : (⟨2, ![128, 100000]⟩ : Shape).Idx) 1).val = j := Nat.mod_eq_of_lt hj
    rw [hv] at hn
    exact hn
  have hit : x (ix2 i (Fin.ofNat 100000 k)) = M := by
    rcases hfrom with ⟨rfl, rfl⟩ | ⟨n, hn, hx, hc⟩
    · rcases all 0 (by omega) with h0 | ⟨h0, _⟩
      · exact absurd h0 not_lt_bot
      · exact h0
    · obtain ⟨q, hq⟩ := (mem n).mp hn
      rw [← hq] at hx hc
      have : Fin.ofNat 100000 k = q := Fin.ext ((Nat.mod_eq_of_lt hk).trans hc.symm)
      rw [this]; exact hx
  refine ⟨k, ⟨hk, fun j hj => ?_⟩, congrArg Prod.snd e⟩
  beta_reduce
  rw [hit]
  rcases all j hj with h1 | ⟨h1, h2⟩
  · exact ⟨h1.le, fun _ => h1⟩
  · exact ⟨h1.le, fun h3 => absurd h3 (not_lt.mpr h2)⟩

/-- The maximum over the shards, begun at minus infinity: no shard is above it and some shard reaches it. -/
theorem max_shards (x : (⟨2, ![32, 128]⟩ : Shape).Idx → EReal) {u : Shape} (ix : u.Idx → EReal) (hix : ∀ i, ix i = ⊥)
    (h : (⟨2, ![32, 128]⟩ : Shape).ReducesTo [0] ⟨1, ![128]⟩) (hu : 0 < u.numel) (i : Fin 128) :
    (∀ w : Fin 32, x (ix2 w i) ≤ Host.reduce (FloatOps.maximumf (F := Ideal) (φ := .f32)) x ix h hu (ix1 i))
      ∧ ∃ w : Fin 32, x (ix2 w i) = Host.reduce (FloatOps.maximumf (F := Ideal) (φ := .f32)) x ix h hu (ix1 i) := by
  have e : Host.reduce (FloatOps.maximumf (F := Ideal) (φ := .f32)) x ix h hu (ix1 i)
      = (Finset.univ : Finset (Fin 32)).fold (max : EReal → EReal → EReal) ⊥ (fun w => x (ix2 w i)) := by
    rw [Host.reduce_eq_fold, h.fold_fiber_r2_a0, hix]
    rfl
  rw [e]
  have up : ∀ w : Fin 32, x (ix2 w i) ≤ (Finset.univ : Finset (Fin 32)).fold (max : EReal → EReal → EReal) ⊥ (fun w => x (ix2 w i)) := fun w =>
    (Finset.le_fold_max _).mpr (Or.inr ⟨w, Finset.mem_univ w, le_rfl⟩)
  refine ⟨up, ?_⟩
  rcases (Finset.le_fold_max _).mp (le_refl ((Finset.univ : Finset (Fin 32)).fold (max : EReal → EReal → EReal) ⊥ (fun w => x (ix2 w i)))) with hb | ⟨w, _, hw⟩
  · exact ⟨0, le_antisymm (up 0) (hb.trans bot_le)⟩
  · exact ⟨w, le_antisymm (up w) hw⟩

/-- The least word over the shards, begun at `b`: it is no greater than any, and is one of them or `b`. -/
theorem min_shards (x : (⟨2, ![32, 128]⟩ : Shape).Idx → BitVec 32) (b : BitVec 32) {u : Shape} (ix : u.Idx → BitVec 32) (hix : ∀ i, ix i = b)
    (h : (⟨2, ![32, 128]⟩ : Shape).ReducesTo [0] ⟨1, ![128]⟩) (hu : 0 < u.numel) (i : Fin 128) :
    (∀ w : Fin 32, (Host.reduce IntOp.minsi x ix h hu (ix1 i)).toInt ≤ (x (ix2 w i)).toInt)
      ∧ (Host.reduce IntOp.minsi x ix h hu (ix1 i) = b ∨ ∃ w : Fin 32, Host.reduce IntOp.minsi x ix h hu (ix1 i) = x (ix2 w i)) := by
  have e : Host.reduce IntOp.minsi x ix h hu (ix1 i) = (Finset.univ : Finset (Fin 32)).fold IntOp.minsi b (fun w => x (ix2 w i)) := by
    rw [Host.reduce_eq_fold, h.fold_fiber_r2_a0, hix]
    rfl
  rw [e]
  have least : ∀ p q : BitVec 32, (IntOp.minsi p q = p ∨ IntOp.minsi p q = q) ∧ (IntOp.minsi p q).toInt ≤ p.toInt ∧ (IntOp.minsi p q).toInt ≤ q.toInt := by
    intro p q
    unfold IntOp.minsi
    by_cases hpq : p.slt q
    · rw [if_pos hpq]; exact ⟨Or.inl rfl, le_rfl, le_of_lt (by simpa [BitVec.slt] using hpq)⟩
    · rw [if_neg hpq]; exact ⟨Or.inr rfl, by simpa [BitVec.slt] using hpq, le_rfl⟩
  have gen : ∀ s : Finset (Fin 32), (∀ w ∈ s, (s.fold IntOp.minsi b (fun w => x (ix2 w i))).toInt ≤ (x (ix2 w i)).toInt)
      ∧ (s.fold IntOp.minsi b (fun w => x (ix2 w i)) = b ∨ ∃ w, s.fold IntOp.minsi b (fun w => x (ix2 w i)) = x (ix2 w i)) := by
    intro s
    induction s using Finset.cons_induction with
    | empty => exact ⟨fun w hw => absurd hw (Finset.notMem_empty w), Or.inl rfl⟩
    | cons a s ha ih =>
      rw [Finset.fold_cons]
      obtain ⟨l1, l2, l3⟩ := least (x (ix2 a i)) (s.fold IntOp.minsi b (fun w => x (ix2 w i)))
      refine ⟨fun w hw => ?_, ?_⟩
      · rcases Finset.mem_cons.mp hw with rfl | hw
        · exact l2
        · exact l3.trans (ih.1 w hw)
      · rcases l1 with l1 | l1
        · exact Or.inr ⟨a, l1⟩
        · rcases ih.2 with hb | ⟨w, hw⟩
          · exact Or.inl (l1.trans hb)
          · exact Or.inr ⟨w, l1.trans hw⟩
  exact ⟨fun w => (gen Finset.univ).1 w (Finset.mem_univ w), (gen Finset.univ).2⟩

/-- A fold by `or` that comes out 0 met no 1. -/
theorem or_foldl {ι : Type} (f : ι → BitVec 1) : ∀ (l : List ι) (b : BitVec 1), l.foldl (fun r n => IntOp.ori r (f n)) b = 0#1 → b = 0#1 ∧ ∀ n ∈ l, f n = 0#1
  | [], b, h => ⟨h, fun _ hn => nomatch hn⟩
  | a :: l, b, h => by
    obtain ⟨h1, h2⟩ := or_foldl f l _ h
    have both : ∀ p q : BitVec 1, IntOp.ori p q = 0#1 → p = 0#1 ∧ q = 0#1 := by decide
    obtain ⟨hb, ha⟩ := both _ _ h1
    refine ⟨hb, fun n hn => ?_⟩
    rcases List.mem_cons.mp hn with rfl | hn
    · exact ha
    · exact h2 n hn

/-- Where no bit of all is set, each is 0. -/
theorem any_zero {s : Shape} {axes : List (Fin s.rank)} {u : Shape} (x : s.Idx → BitVec 1) (ix : u.Idx → BitVec 1) (h : s.ReducesTo axes ⟨0, ![]⟩)
    (hu : 0 < u.numel) (j : (⟨0, ![]⟩ : Shape).Idx) (h0 : Host.reduce IntOp.ori x ix h hu j = 0#1) (i : s.Idx) : x i = 0#1 := by
  rw [Host.reduce_eq_foldl] at h0
  refine (or_foldl x _ _ h0).2 i (List.mem_filter.mpr ⟨List.mem_map.mpr ⟨s.rowMajor i, List.mem_finRange _, Equiv.symm_apply_apply _ _⟩, ?_⟩)
  exact decide_eq_true (funext fun a => a.elim0)

end Cert.Proof

end
-- ==== Proof.Values.lean ====
/-
  The program's result and the reference's agree over the extended reals: in every row both hold the first column at which the
  value with its bonus is greatest.
-/
module

public import proofs.«01_k».proof.Proof.Frames
public import proofs.«01_k».proof.Proof.Reads
public import proofs.«01_k».proof.Proof.RefReads
public import proofs.«01_k».proof.Proof.Reduce

@[expose] public section

noncomputable section

namespace Cert.Proof

open Idealize.ShloMosaic Idealize.ShloMosaic.TcCoe Idealize.ShloMosaic.StableHlo Idealize.SL.Sem
open Cert.KernelIdeal Cert.KernelIdeal.Gen
open Cert.Proof.Tile (hFold lFold colP colB cellP cellB rowV rowI rowM tabV tabI tabM merged doubted atSwitch atEnd word flt plus called)

/-- The reward of a row at a column: its value with the bonus. -/
def reward (X : S128x100000.Idx → EReal) (r : Fin 128) (j : ℕ) : EReal := X (ix2 r (Fin.ofNat 100000 j)) + bonus (num r.val) (num j)

theorem flt_num {k : ℕ} (h : k < 2 ^ 31) : flt (BitVec.ofNat 32 k) = num k := num_word h

/-- The reward, with the bonus at the words of the row and the column. -/
theorem reward_word (X : S128x100000.Idx → EReal) (r : Fin 128) {j : ℕ} (hj : j < 100000) :
    plus (X (ix2 r (Fin.ofNat 100000 j))) (bonus (flt (BitVec.ofNat 32 r.val)) (flt (BitVec.ofNat 32 (Fin.ofNat 100000 j).val))) = reward X r j := by
  have hr := r.isLt
  rw [show (Fin.ofNat 100000 j).val = j from Nat.mod_eq_of_lt hj, flt_num (by omega), flt_num (by omega)]
  rfl

/-! ## What the shards found -/

section Shards

variable (X : S128x100000.Idx → EReal) (P : S100000x128.Idx → EReal) (B : S100000x16.Idx → EReal)
variable (hP : ∀ i, P i = X (ix2 (i 1) (i 0))) (hB : ∀ i, B i = bonus (flt (BitVec.ofNat 32 (i 1).val)) (flt (BitVec.ofNat 32 (i 0).val)))

include hP in
theorem col_value (r : Fin 128) (j : ℕ) : P (cellP j r.val) = X (ix2 r (Fin.ofNat 100000 j)) := by
  rw [hP]
  have e : (cellP j r.val) 1 = r := Fin.ext (Nat.mod_eq_of_lt r.isLt)
  rw [e]
  rfl

include hB in
theorem col_bonus (r j : ℕ) (hr : r < 16) (hj : j < 100000) : B (cellB j r) = bonus (num r) (num j) := by
  rw [hB]
  have e0 : ((cellB j r) 0).val = j := Nat.mod_eq_of_lt hj
  have e1 : ((cellB j r) 1).val = r := Nat.mod_eq_of_lt hr
  rw [e0, e1, flt_num (by omega), flt_num (by omega)]

include hP hB in
/-- A heavy row's shard. -/
theorem shard_heavy (w : Fin 32) (r : Fin 128) (hr : r.val < 16) :
    Found (reward X r) (3125 * w.val) (3125 * w.val + 3125) (tabV (F := Ideal) P B (ix2 w r)) (tabI (F := Ideal) P B (ix2 w r)) := by
  show Found _ _ _ (rowV (F := Ideal) P B (3125 * w.val) r.val) (rowI (F := Ideal) P B (3125 * w.val) r.val)
  rw [rowV, rowI, if_pos hr, if_pos hr]
  have spec := hFold_spec (colP (F := Ideal) P r.val) (colB (F := Ideal) B r.val) (3125 * w.val) 3125
  generalize hFold (F := Ideal) (colP (F := Ideal) P r.val) (colB (F := Ideal) B r.val) (3125 * w.val) 3125 = s at spec ⊢
  have hw := w.isLt
  have e : ∀ j, j < 3125 * w.val + 3125 → plus (colP (F := Ideal) P r.val j) (colB (F := Ideal) B r.val j) = reward X r j := fun j hj => by
    show P (cellP j r.val) + B (cellB j r.val) = _
    rw [col_value X P hP, col_bonus B hB r.val j hr (by omega)]
    rfl
  rcases spec with ⟨h1, h2, h3⟩ | ⟨k, hk, hk', h2, h1, h3⟩
  · exact Or.inl ⟨h1, h2, fun j hj hj' => (e j hj').symm.trans (h3 j hj hj')⟩
  · refine Or.inr ⟨k, hk, hk', h2, h1.trans (e k hk'), fun j hj hj' => ?_⟩
    rw [← e j hj', ← e k hk']
    exact h3 j hj hj'

include hP in
/-- A light row's shard. -/
theorem shard_light (w : Fin 32) (r : Fin 128) (hr : ¬ r.val < 16) :
    Seen (fun j => X (ix2 r (Fin.ofNat 100000 j))) (3125 * w.val) (3125 * w.val + 3125) (tabV (F := Ideal) P B (ix2 w r)) (tabI (F := Ideal) P B (ix2 w r))
      (tabM (F := Ideal) P (ix2 w r)) := by
  show Seen _ _ _ (rowV (F := Ideal) P B (3125 * w.val) r.val) (rowI (F := Ideal) P B (3125 * w.val) r.val) (rowM (F := Ideal) P (3125 * w.val) r.val)
  rw [rowV, rowI, rowM, if_neg hr, if_neg hr, if_neg hr]
  have spec := lFold_spec (colP (F := Ideal) P r.val) (3125 * w.val) 3125
  generalize lFold (F := Ideal) (colP (F := Ideal) P r.val) (3125 * w.val) 3125 = s at spec ⊢
  have e : (fun j => X (ix2 r (Fin.ofNat 100000 j))) = colP (F := Ideal) P r.val := funext fun j => (col_value X P hP r j).symm
  rw [e]
  exact spec

include hP hB in
/-- Every shard's word names a column. -/
theorem shard_col (w : Fin 32) (r : Fin 128) : ∃ k, k < 100000 ∧ tabI (F := Ideal) P B (ix2 w r) = BitVec.ofNat 32 k := by
  have hw := w.isLt
  by_cases hr : r.val < 16
  · rcases shard_heavy X P B hP hB w r hr with ⟨_, h, _⟩ | ⟨k, _, hk, h, _⟩
    · exact ⟨0, by omega, h⟩
    · exact ⟨k, by omega, h⟩
  · rcases shard_light X P B hP w r hr with ⟨_, h, _⟩ | ⟨k, _, hk, h, _⟩
    · exact ⟨0, by omega, h⟩
    · exact ⟨k, by omega, h⟩

end Shards

/-! ## The merge -/

theorem light_iff (r : Fin 128) : Ideal.ofBits FTy.f32 1098907648#32 ≤ flt (BitVec.ofNat 32 r.val) ↔ ¬ r.val < 16 := by
  have hr := r.isLt
  rw [sixteen_ideal, flt_num (by omega), EReal.coe_le_coe_iff, not_lt]
  exact_mod_cast Iff.rfl

/-- The input of the row tables. -/
abbrev input (W : Valuation τ sig (Elt Ideal)) : S128x100000.Idx → EReal := W (Proc.devRef .tc (main_arg0 : Ref sig .tc))

variable (W : Valuation τ sig (Elt Ideal))

/-- A shard's reward. -/
theorem merged_rew (w : Fin 32) (r : Fin 128) :
    merged W (Proc.devRef .tc (main_v49 : Ref sig .tc)) (ix2 w r)
      = if ¬ r.val < 16 then
          plus (tabV (F := Ideal) (after Tile.opsBefore W Tile.p') (after Tile.opsBefore W Tile.b') (ix2 w r))
            (bonus (num r.val) (num (tabI (F := Ideal) (after Tile.opsBefore W Tile.p') (after Tile.opsBefore W Tile.b') (ix2 w r)).toNat))
        else tabV (F := Ideal) (after Tile.opsBefore W Tile.p') (after Tile.opsBefore W Tile.b') (ix2 w r) := by
  have hr := r.isLt
  obtain ⟨k, hk, e⟩ := shard_col (input W) (after Tile.opsBefore W Tile.p') (after Tile.opsBefore W Tile.b') (Tile.table_P W) (Tile.table_B W) w r
  rw [merged, Tile.merge_rew, select_oge]
  rw [Tile.called_v, Tile.called_i, e, toNat_col hk]
  show (if Ideal.ofBits FTy.f32 1098907648#32 ≤ flt (BitVec.ofNat 32 r.val) then plus _ (bonus (flt (BitVec.ofNat 32 r.val)) _) else _) = _
  rw [flt_num (show k < 2 ^ 31 by omega)]
  simp only [light_iff]
  rw [flt_num (show r.val < 2 ^ 31 by omega)]

/-- Without doubt the merge finds the first column at which the row's reward is greatest. -/
theorem merged_idx (r : Fin 128) (h0 : doubted W (Proc.devRef .tc (main_v82 : Ref sig .tc)) ix0 = 0#1) :
    IsArg (reward (input W) r) 100000 (merged W (Proc.devRef .tc (main_v55 : Ref sig .tc)) (ix1 r)) := by
  have hr := r.isLt
  have found := shard_heavy (input W) (after Tile.opsBefore W Tile.p') (after Tile.opsBefore W Tile.b') (Tile.table_P W) (Tile.table_B W)
  have seen := shard_light (input W) (after Tile.opsBefore W Tile.p') (after Tile.opsBefore W Tile.b') (Tile.table_P W)
  have cols := shard_col (input W) (after Tile.opsBefore W Tile.p') (after Tile.opsBefore W Tile.b') (Tile.table_P W) (Tile.table_B W)
  have rew := fun w => merged_rew W w r
  -- the best and the least word
  obtain ⟨hle, hmax⟩ := max_shards (merged W (Proc.devRef .tc (main_v49 : Ref sig .tc))) (constant (F := Ideal) S_ .f32 0xFF800000#32) (fun _ => ninf_ideal)
    reducesTo_S32x128_S128_d0 h_S_ r
  rw [← Tile.merge_best] at hmax
  simp only [← Tile.merge_best] at hle
  obtain ⟨hmin, hone⟩ := min_shards (merged W (Proc.devRef .tc (main_v54 : Ref sig .tc))) 2147483647#32 (constantI S_ 32 2147483647#32) (fun _ => rfl)
    reducesTo_S32x128_S128_d0 h_S_ r
  rw [← Tile.merge_idx] at hone
  simp only [← Tile.merge_idx] at hmin
  have hword := fun w : Fin 32 => Tile.merge_word (called (after Tile.opsBefore W)) (ix2 w r)
  simp only [select_oeq, Tile.called_i] at hword
  have hit := least_hit _ (fun w => merged W (Proc.devRef .tc (main_v49 : Ref sig .tc)) (ix2 w r))
    (fun w => tabI (F := Ideal) (after Tile.opsBefore W Tile.p') (after Tile.opsBefore W Tile.b') (ix2 w r)) _
    (fun w => merged W (Proc.devRef .tc (main_v54 : Ref sig .tc)) (ix2 w r)) hword hmin hone hmax (fun w => cols w r)
  by_cases hh : r.val < 16
  · refine merge_heavy (reward (input W) r) _ _ _ _ (fun w => ?_) hle hit.1 hit.2
    rw [rew w, if_neg (not_not.mpr hh)]
    exact found w r hh
  · refine merge_light (fun j => input W (ix2 r (Fin.ofNat 100000 j))) (fun j => bonus (num r.val) (num j)) (fun _ _ h => bonus_anti r.val h)
      _ _ _ _ _ _ (fun w => seen w r hh) (fun w => ?_) (fun w => ?_) hle hit.1 hit.2
    · rw [rew w, if_pos hh]
    · have hw := w.isLt
      have hbit := any_zero _ _ reducesTo_S32x128_S_d0_1 h_S_ ix0 ((Tile.doubt_any (merged W) ix0).symm.trans h0) (ix2 w r)
      rw [Tile.doubt_merged] at hbit
      have one := (oge_one (flt (BitVec.ofNat 32 r.val)) (Ideal.ofBits FTy.f32 1098907648#32)).mpr ((light_iff r).mpr hh)
      have drop : ∀ p q : BitVec 1, IntOp.andi p q = 0#1 → p = 1#1 → q = 0#1 := by decide
      have hlt := (oge_zero _ _).mp (drop _ _ hbit one)
      rw [Tile.called_m] at hlt
      have lo : flt (BitVec.ofNat 32 w.val) * Ideal.ofBits FTy.f32 1162039296#32 = num (3125 * w.val) := by
        rw [shard_ideal, flt_num (show w.val < 2 ^ 31 by omega), num, num, ← EReal.coe_mul]
        congr 1
        push_cast
        ring
      have row : flt (BitVec.ofNat 32 r.val) = num r.val := flt_num (by omega)
      have hlt' : plus (tabM (F := Ideal) (after Tile.opsBefore W Tile.p') (ix2 w r))
          (bonus (flt (BitVec.ofNat 32 r.val)) (flt (BitVec.ofNat 32 w.val) * Ideal.ofBits FTy.f32 1162039296#32))
            < merged W (Proc.devRef .tc (main_v50 : Ref sig .tc)) (ix1 r) := hlt
      rw [lo, row] at hlt'
      exact hlt'

/-! ## The results -/

/-- The program's result at a row. -/
theorem result_kernel (i : S128x1.Idx) : IsArg (reward (input W) (i 0)) 100000 (atEnd W Tile.r' i) := by
  rw [Tile.atEnd_r]
  have hz : atSwitch W (Proc.devRef .tc (main_v84 : Ref sig .tc)) ix0 = (0 : EReal) := by
    rw [Tile.atSwitch_v84]; exact Tile.doubt_zero _ ix0
  by_cases hb : HostLoop.branch (word W) 1 = 0
  · rw [Tile.opsSwitch, if_pos hb, Tile.keep_result, Tile.atSwitch_v55]
    refine merged_idx W (i 0) ?_
    have hw : word W = (doubted W (Proc.devRef .tc (main_v82 : Ref sig .tc)) ix0).setWidth 32 :=
      (Tile.theWord_eq W).trans (Tile.atSwitch_v85 W _)
    rw [hw] at hb
    have key : ∀ b : BitVec 1, HostLoop.branch (b.setWidth 32) 1 = 0 → b = 0#1 := by decide
    exact key _ hb
  · rw [Tile.opsSwitch, if_neg hb, Tile.full_result]
    have h := argmax_row (reducer_argmax_f32_i32 (F := Ideal)) argmax_body
      (after Tile.opsFull (atSwitch W) (Proc.devRef .tc (main_case0b1_v118 : Ref sig .tc))) (iotaInDim S128x100000 32 1) (fun _ => rfl)
      (constant (F := Ideal) S_ .f32 0xFF800000#32) (constantI S_ 32 0#32) (fun _ => ninf_ideal) (fun _ => rfl) reducesTo_S128x100000_S128_d1 h_S_ (i 0)
    refine h.congr fun j hj => ?_
    rw [Tile.full_rew _ _ hz, Tile.atSwitch_v0, Tile.table_P]
    exact reward_word (input W) (i 0) hj

/-- The reference's result at a row. -/
theorem result_reference (U : Valuation Cert.ReferenceIdeal.τ Cert.ReferenceIdeal.sig (Elt Ideal)) (i : S128x1.Idx) :
    IsArg (reward (U (Proc.devRef .tc (Cert.ReferenceIdeal.main_arg0 : Ref Cert.ReferenceIdeal.sig .tc))) (i 0)) 100000
      (after Ref.ops U (Proc.devRef .tc (Cert.ReferenceIdeal.main_v25 : Ref Cert.ReferenceIdeal.sig .tc)) i) := by
  rw [Ref.result]
  have h := argmax_row (Cert.ReferenceIdeal.reducer_argmax_f32_i32 (F := Ideal)) argmax_body
    (after Ref.ops U (Proc.devRef .tc (Cert.ReferenceIdeal.main_v23 : Ref Cert.ReferenceIdeal.sig .tc))) (iotaInDim S128x100000 32 1) (fun _ => rfl)
    (constant (F := Ideal) S_ .f32 0xFF800000#32) (constantI S_ 32 0#32) (fun _ => ninf_ideal) (fun _ => rfl)
    Cert.ReferenceIdeal.Gen.reducesTo_S128x100000_S128_d1 Cert.ReferenceIdeal.Gen.h_S_ (i 0)
  refine h.congr fun j hj => ?_
  rw [Ref.rewards]
  exact reward_word (U (Proc.devRef .tc (Cert.ReferenceIdeal.main_arg0 : Ref Cert.ReferenceIdeal.sig .tc))) (i 0) hj

/-- On the same input the two results are the same. -/
theorem values_agree (U : Valuation Cert.ReferenceIdeal.τ Cert.ReferenceIdeal.sig (Elt Ideal))
    (h : U (Proc.devRef .tc (Cert.ReferenceIdeal.main_arg0 : Ref Cert.ReferenceIdeal.sig .tc)) = input W) :
    after Ref.ops U (Proc.devRef .tc (Cert.ReferenceIdeal.main_v25 : Ref Cert.ReferenceIdeal.sig .tc)) = atEnd W Tile.r' := by
  funext i
  have hr := result_reference U i
  rw [h] at hr
  exact hr.unique (result_kernel W i)

/-- The idealized program computes what the reference computes. -/
theorem algebraic : Cert.algebraic_KernelIdeal_ReferenceIdeal := fun m g m' g' _ hm =>
  ⟨fun c => atEnd (Tile.V0 m c) Tile.r',
    (θ_run (Cert.KernelIdeal.defs (F := Ideal)) _ _).mono (fun _ h c => ⟨(h.1 c).2, (h.1 c).1⟩) (Tile.run_main (F := Ideal) m g),
    (θ_run (Cert.ReferenceIdeal.defs (F := Ideal)) _ _).mono
      (fun _ h c => ⟨(h c).2.trans (values_agree (Tile.V0 m c) (launchContents m' c) (hm c)), (h c).1⟩) (reference_run m' g')⟩

end Cert.Proof

end
-- ==== Proof.lean ====
/-
  The certificate: the frames of the three programs, that the idealized program is the program's own text, and that it computes
  what the reference computes.
-/
module

public import proofs.«01_k».proof.Defs
public import proofs.«01_k».proof.Proof.Frames
public import proofs.«01_k».proof.Proof.Values

@[expose] public section

noncomputable section

namespace Cert.Proof

/-- Every claim of the certificate. -/
theorem claim : Cert.Claim :=
  ⟨Cert.Kernel.Gen.facts, Cert.KernelIdeal.Gen.facts, Cert.ReferenceIdeal.Gen.facts, frame_kernel, frame_ideal, frame_reference, trivial, algebraic⟩

end Cert.Proof

end
